-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5000x32x2 : Shape := ⟨3, ![5000, 32, 2]⟩
abbrev S5000 : Shape := ⟨1, ![5000]⟩
abbrev S5000x4 : Shape := ⟨2, ![5000, 4]⟩
abbrev S_ : Shape := ⟨0, ![]⟩
abbrev S5120x4 : Shape := ⟨2, ![5120, 4]⟩
abbrev S5120 : Shape := ⟨1, ![5120]⟩
abbrev S5120x1 : Shape := ⟨2, ![5120, 1]⟩
abbrev S5000x64 : Shape := ⟨2, ![5000, 64]⟩
abbrev S5120x64 : Shape := ⟨2, ![5120, 64]⟩
abbrev S4x5120 : Shape := ⟨2, ![4, 5120]⟩
abbrev S1x5120 : Shape := ⟨2, ![1, 5120]⟩
abbrev S5120x74 : Shape := ⟨2, ![5120, 74]⟩
abbrev S128x4 : Shape := ⟨2, ![128, 4]⟩
abbrev S128x1 : Shape := ⟨2, ![128, 1]⟩
abbrev S128x5120 : Shape := ⟨2, ![128, 5120]⟩
abbrev S128 : Shape := ⟨1, ![128]⟩
abbrev S1x1x5120 : Shape := ⟨3, ![1, 1, 5120]⟩
abbrev S1 : Shape := ⟨1, ![1]⟩
abbrev S1x1x1 : Shape := ⟨3, ![1, 1, 1]⟩
abbrev S5000x74 : Shape := ⟨2, ![5000, 74]⟩

abbrev nBuf : Space → Nat
  | .hbm => 23
  | .vmem => 11
  | .smem => 0
  | _ => 0

abbrev bufTy : (tb : Table) → Fin (tcTables nBuf tb) → BufTy
  | .hbm, ⟨0, _⟩ => ⟨S5000x32x2, .f32⟩
  | .hbm, ⟨1, _⟩ => ⟨S5000, .f32⟩
  | .hbm, ⟨2, _⟩ => ⟨S5000x4, .f32⟩
  | .hbm, ⟨3, _⟩ => ⟨S5000x4, .f32⟩
  | .hbm, ⟨4, _⟩ => ⟨S_, .i32⟩
  | .hbm, ⟨5, _⟩ => ⟨S_, .f32⟩
  | .hbm, ⟨6, _⟩ => ⟨S5120x4, .f32⟩
  | .hbm, ⟨7, _⟩ => ⟨S_, .i32⟩
  | .hbm, ⟨8, _⟩ => ⟨S_, .f32⟩
  | .hbm, ⟨9, _⟩ => ⟨S5120, .f32⟩
  | .hbm, ⟨10, _⟩ => ⟨S5120x1, .f32⟩
  | .hbm, ⟨11, _⟩ => ⟨S_, .i32⟩
  | .hbm, ⟨12, _⟩ => ⟨S_, .f32⟩
  | .hbm, ⟨13, _⟩ => ⟨S5120x4, .f32⟩
  | .hbm, ⟨14, _⟩ => ⟨S5000x64, .f32⟩
  | .hbm, ⟨15, _⟩ => ⟨S_, .i32⟩
  | .hbm, ⟨16, _⟩ => ⟨S_, .f32⟩
  | .hbm, ⟨17, _⟩ => ⟨S5120x64, .f32⟩
  | .hbm, ⟨18, _⟩ => ⟨S4x5120, .f32⟩
  | .hbm, ⟨19, _⟩ => ⟨S1x5120, .f32⟩
  | .hbm, ⟨20, _⟩ => ⟨S4x5120, .f32⟩
  | .hbm, ⟨21, _⟩ => ⟨S5120x74, .f32⟩
  | .hbm, ⟨22, _⟩ => ⟨S5000x74, .f32⟩
  | .local _ .vmem, ⟨0, _⟩ => ⟨S5120x4, .f32⟩
  | .local _ .vmem, ⟨1, _⟩ => ⟨S4x5120, .f32⟩
  | .local _ .vmem, ⟨2, _⟩ => ⟨S1x5120, .f32⟩
  | .local _ .vmem, ⟨3, _⟩ => ⟨S4x5120, .f32⟩
  | .local _ .vmem, ⟨4, _⟩ => ⟨S5120x1, .f32⟩
  | .local _ .vmem, ⟨5, _⟩ => ⟨S5120x4, .f32⟩
  | .local _ .vmem, ⟨6, _⟩ => ⟨S5120x64, .f32⟩
  | .local _ .vmem, ⟨7, _⟩ => ⟨S5120x74, .f32⟩
  | .local _ .vmem, ⟨8, _⟩ => ⟨S5120x1, .f32⟩
  | .local _ .vmem, ⟨9, _⟩ => ⟨S5120x1, .f32⟩
  | .local _ .vmem, ⟨10, _⟩ => ⟨S5120x1, .f32⟩
  | _, _ => ⟨S5000x32x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_call2_v0 : Ref sig .tc := ⟨.hbm, 12, rfl⟩
abbrev main_v3 : Ref sig .tc := ⟨.hbm, 13, rfl⟩
abbrev main_v4 : Ref sig .tc := ⟨.hbm, 14, rfl⟩
abbrev main_c_2 : Ref sig .tc := ⟨.hbm, 15, rfl⟩
abbrev main_call3_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32_40 : BitVec 32 := 0#32
  let c40_i32 : BitVec 32 := 40#32
  let v70 : BitVec 32 := Scalar.addi c0_i32_40 c40_i32
  let c1_i32 : BitVec 32 := 1#32
  ⟨c0_i32_40, v70, c1_i32⟩
def k0_off1 (k0_t1 : Fin k0_t1_loop.trips) : Fin 2 → Nat :=
  let c0_i32_40 : BitVec 32 := 0#32
  let c1_i32 : BitVec 32 := 1#32
  let arg14 : BitVec 32 := Scf.iv c0_i32_40 c1_i32 k0_t1
  let c128_i32 : BitVec 32 := 128#32
  let v94 : BitVec 32 := Scalar.muli arg14 c128_i32
  let v95 : Index := Scalar.indexCast v94
  let c0_53 : Index := 0#32
  ![v95.toNat, 0]
def k0_off2 (k0_t1 : Fin k0_t1_loop.trips) : Fin 2 → Nat :=
  let c0_i32_40 : BitVec 32 := 0#32
  let c1_i32 : BitVec 32 := 1#32
  let arg14 : BitVec 32 := Scf.iv c0_i32_40 c1_i32 k0_t1
  let c128_i32 : BitVec 32 := 128#32
  let v94 : BitVec 32 := Scalar.muli arg14 c128_i32
  let v133 : Index := Scalar.indexCast v94
  let c0_58 : Index := 0#32
  ![v133.toNat, 0]
abbrev stage0_0 : Fin 1 → Memref sig .tc .vmem S5120x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5120x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5120x74 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S5000x32x2 : Shape := ⟨3, ![5000, 32, 2]⟩
abbrev S5000 : Shape := ⟨1, ![5000]⟩
abbrev S5000x4 : Shape := ⟨2, ![5000, 4]⟩
abbrev S_ : Shape := ⟨0, ![]⟩
abbrev S5000x1 : Shape := ⟨2, ![5000, 1]⟩
abbrev S5000x2 : Shape := ⟨2, ![5000, 2]⟩
abbrev S5000x1x2 : Shape := ⟨3, ![5000, 1, 2]⟩
abbrev S1x5000x2 : Shape := ⟨3, ![1, 5000, 2]⟩
abbrev S5000x5000x2 : Shape := ⟨3, ![5000, 5000, 2]⟩
abbrev S5000x5000x1 : Shape := ⟨3, ![5000, 5000, 1]⟩
abbrev S5000x5000 : Shape := ⟨2, ![5000, 5000]⟩
abbrev S1x5000 : Shape := ⟨2, ![1, 5000]⟩
abbrev S1 : Shape := ⟨1, ![1]⟩
abbrev S5000x64 : Shape := ⟨2, ![5000, 64]⟩
abbrev S5000x74 : Shape := ⟨2, ![5000, 74]⟩

abbrev nBuf : Space → Nat
  | .hbm => 150
  | .vmem => 0
  | .smem => 0
  | _ => 0

abbrev hbmTy0_0 (i : Nat) : BufTy := match i % 128 with
  | 0 => ⟨S5000x32x2, .f32⟩
  | 1 => ⟨S5000, .f32⟩
  | 2 => ⟨S5000x4, .f32⟩
  | 3 => ⟨S5000x4, .f32⟩
  | 4 => ⟨S_, .f32⟩
  | 5 => ⟨S5000, .f32⟩
  | 6 => ⟨S_, .f32⟩
  | 7 => ⟨S5000, .f32⟩
  | 8 => ⟨S5000, .f32⟩
  | 9 => ⟨S5000, .f32⟩
  | 10 => ⟨S5000, .f32⟩
  | 11 => ⟨S_, .f32⟩
  | 12 => ⟨S5000, .f32⟩
  | 13 => ⟨S5000, .f32⟩
  | 14 => ⟨S_, .f32⟩
  | 15 => ⟨S5000, .f32⟩
  | 16 => ⟨S5000, .f32⟩
  | 17 => ⟨S_, .f32⟩
  | 18 => ⟨S5000, .f32⟩
  | 19 => ⟨S5000, .f32⟩
  | 20 => ⟨S5000, .f32⟩
  | 21 => ⟨S5000, .f32⟩
  | 22 => ⟨S5000, .i32⟩
  | 23 => ⟨S5000, .f32⟩
  | 24 => ⟨S5000, .i32⟩
  | 25 => ⟨S_, .i32⟩
  | 26 => ⟨S5000, .i32⟩
  | 27 => ⟨S5000, .i1⟩
  | 28 => ⟨S_, .i32⟩
  | 29 => ⟨S5000, .i32⟩
  | 30 => ⟨S5000, .i32⟩
  | 31 => ⟨S5000, .i32⟩
  | 32 => ⟨S5000x1, .i32⟩
  | 33 => ⟨S5000x4, .f32⟩
  | 34 => ⟨S5000x1, .f32⟩
  | 35 => ⟨S5000, .f32⟩
  | 36 => ⟨S5000x1, .f32⟩
  | 37 => ⟨S5000, .f32⟩
  | 38 => ⟨S5000, .f32⟩
  | 39 => ⟨S5000x1, .f32⟩
  | 40 => ⟨S5000, .f32⟩
  | 41 => ⟨S5000x1, .f32⟩
  | 42 => ⟨S5000, .f32⟩
  | 43 => ⟨S5000, .f32⟩
  | 44 => ⟨S5000, .f32⟩
  | 45 => ⟨S5000x2, .f32⟩
  | 46 => ⟨S5000x1x2, .f32⟩
  | 47 => ⟨S5000x2, .f32⟩
  | 48 => ⟨S1x5000x2, .f32⟩
  | 49 => ⟨S5000x5000x2, .f32⟩
  | 50 => ⟨S5000x5000x2, .f32⟩
  | 51 => ⟨S5000x5000x2, .f32⟩
  | 52 => ⟨S5000x2, .f32⟩
  | 53 => ⟨S5000x1x2, .f32⟩
  | 54 => ⟨S5000x2, .f32⟩
  | 55 => ⟨S1x5000x2, .f32⟩
  | 56 => ⟨S5000x5000x2, .f32⟩
  | 57 => ⟨S5000x5000x2, .f32⟩
  | 58 => ⟨S5000x5000x2, .f32⟩
  | 59 => ⟨S5000x5000x2, .f32⟩
  | 60 => ⟨S_, .f32⟩
  | 61 => ⟨S_, .f32⟩
  | 62 => ⟨S5000x5000x2, .f32⟩
  | 63 => ⟨S5000x5000x2, .f32⟩
  | 64 => ⟨S5000x5000x1, .f32⟩
  | 65 => ⟨S5000x5000, .f32⟩
  | 66 => ⟨S5000x5000x1, .f32⟩
  | 67 => ⟨S5000x5000, .f32⟩
  | 68 => ⟨S5000x5000, .f32⟩
  | 69 => ⟨S5000x1, .f32⟩
  | 70 => ⟨S1x5000, .f32⟩
  | 71 => ⟨S5000x5000, .f32⟩
  | 72 => ⟨S5000x5000, .f32⟩
  | 73 => ⟨S5000x5000, .f32⟩
  | 74 => ⟨S5000x5000, .f32⟩
  | 75 => ⟨S_, .f32⟩
  | 76 => ⟨S5000x5000, .f32⟩
  | 77 => ⟨S5000x5000, .f32⟩
  | 78 => ⟨S5000x5000, .f32⟩
  | 79 => ⟨S5000, .i32⟩
  | 80 => ⟨S_, .i1⟩
  | 81 => ⟨S5000, .i1⟩
  | 82 => ⟨S_, .i32⟩
  | 83 => ⟨S_, .i32⟩
  | 84 => ⟨S5000x5000, .f32⟩
  | 85 => ⟨S5000, .i32⟩
  | 86 => ⟨S_, .i32⟩
  | 87 => ⟨S_, .i32⟩
  | 88 => ⟨S5000, .i1⟩
  | 89 => ⟨S_, .i32⟩
  | 90 => ⟨S_, .i1⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S1, .i1⟩
  | 100 => ⟨S_, .i1⟩
  | 101 => ⟨S_, .i1⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S_, .i32⟩
  | 116 => ⟨S1x5000, .f32⟩
  | 117 => ⟨S5000, .f32⟩
  | 118 => ⟨S_, .f32⟩
  | 119 => ⟨S5000, .f32⟩
  | 120 => ⟨S5000, .i1⟩
  | 121 => ⟨S_, .i32⟩
  | 122 => ⟨S5000, .i32⟩
  | 123 => ⟨S5000, .i1⟩
  | 124 => ⟨S5000, .i1⟩
  | 125 => ⟨S5000, .i1⟩
  | 126 => ⟨S5000, .i1⟩
  | 127 => ⟨S5000, .i1⟩
  | _ => ⟨S5000x32x2, .f32⟩

abbrev hbmTy0_1 (i : Nat) : BufTy := match i % 128 with
  | 0 => ⟨S_, .i32⟩
  | 1 => ⟨S_, .i32⟩
  | 2 => ⟨S5000, .i1⟩
  | 3 => ⟨S_, .i1⟩
  | 4 => ⟨S5000, .i1⟩
  | 5 => ⟨S_, .i32⟩
  | 6 => ⟨S5000, .i32⟩
  | 7 => ⟨S5000, .i1⟩
  | 8 => ⟨S_, .i32⟩
  | 9 => ⟨S5000, .i32⟩
  | 10 => ⟨S5000, .i32⟩
  | 11 => ⟨S5000, .i32⟩
  | 12 => ⟨S5000x1, .i32⟩
  | 13 => ⟨S5000, .i1⟩
  | 14 => ⟨S5000, .f32⟩
  | 15 => ⟨S5000x1, .f32⟩
  | 16 => ⟨S5000x64, .f32⟩
  | 17 => ⟨S5000x1, .f32⟩
  | 18 => ⟨S5000x1, .f32⟩
  | 19 => ⟨S5000x74, .f32⟩
  | 20 => ⟨S5000x74, .f32⟩
  | 21 => ⟨S5000x74, .f32⟩
  | _ => ⟨S5000x32x2, .f32⟩

abbrev hbmTy (i : Nat) : BufTy := match i / 128 with
  | 0 => hbmTy0_0 i
  | 1 => hbmTy0_1 i
  | _ => ⟨S5000x32x2, .f32⟩

abbrev bufTy : (tb : Table) → Fin (tcTables nBuf tb) → BufTy
  | .hbm, ⟨i, _⟩ => hbmTy i
  | _, _ => ⟨S5000x32x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1_0 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_call1_v0 : Ref sig .tc := ⟨.hbm, 61, rfl⟩
abbrev main_call1_v1 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_6 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_c_7 : Ref sig .tc := ⟨.hbm, 80, rfl⟩
abbrev main_v63 : Ref sig .tc := ⟨.hbm, 81, rfl⟩
abbrev main_c_8 : Ref sig .tc := ⟨.hbm, 82, rfl⟩
abbrev main_c_9 : Ref sig .tc := ⟨.hbm, 83, rfl⟩
abbrev main_v64_0 : Ref sig .tc := ⟨.hbm, 84, rfl⟩
abbrev main_v64_1 : Ref sig .tc := ⟨.hbm, 85, rfl⟩
abbrev main_v64_2 : Ref sig .tc := ⟨.hbm, 86, rfl⟩
abbrev main_v64_3 : Ref sig .tc := ⟨.hbm, 87, rfl⟩
abbrev main_v64_4 : Ref sig .tc := ⟨.hbm, 88, rfl⟩
abbrev main_while0c_c_17 : Ref sig .tc := ⟨.hbm, 89, rfl⟩
abbrev main_while0c_v82 : Ref sig .tc := ⟨.hbm, 90, rfl⟩
abbrev main_while0b_c_17 : Ref sig .tc := ⟨.hbm, 91, rfl⟩
abbrev main_while0b_v82 : Ref sig .tc := ⟨.hbm, 92, rfl⟩
abbrev main_while0b_c_18 : Ref sig .tc := ⟨.hbm, 93, rfl⟩
abbrev main_while0b_v83 : Ref sig .tc := ⟨.hbm, 94, rfl⟩
abbrev main_while0b_v84 : Ref sig .tc := ⟨.hbm, 95, rfl⟩
abbrev main_while0b_c_19 : Ref sig .tc := ⟨.hbm, 96, rfl⟩
abbrev main_while0b_v85 : Ref sig .tc := ⟨.hbm, 97, rfl⟩
abbrev main_while0b_v86 : Ref sig .tc := ⟨.hbm, 98, rfl⟩
abbrev main_while0b_v87 : Ref sig .tc := ⟨.hbm, 99, rfl⟩
abbrev main_while0b_v88 : Ref sig .tc := ⟨.hbm, 100, rfl⟩
abbrev main_while0b_v89 : Ref sig .tc := ⟨.hbm, 101, rfl⟩
abbrev main_while0b_v90 : Ref sig .tc := ⟨.hbm, 102, rfl⟩
abbrev main_while0b_c_20 : Ref sig .tc := ⟨.hbm, 103, rfl⟩
abbrev main_while0b_v91 : Ref sig .tc := ⟨.hbm, 104, rfl⟩
abbrev main_while0b_c_21 : Ref sig .tc := ⟨.hbm, 105, rfl⟩
abbrev main_while0b_v92 : Ref sig .tc := ⟨.hbm, 106, rfl⟩
abbrev main_while0b_v93 : Ref sig .tc := ⟨.hbm, 107, rfl⟩
abbrev main_while0b_c_22 : Ref sig .tc := ⟨.hbm, 108, rfl⟩
abbrev main_while0b_c_23 : Ref sig .tc := ⟨.hbm, 109, rfl⟩
abbrev main_while0b_v94 : Ref sig .tc := ⟨.hbm, 110, rfl⟩
abbrev main_while0b_c_24 : Ref sig .tc := ⟨.hbm, 111, rfl⟩
abbrev main_while0b_c_25 : Ref sig .tc := ⟨.hbm, 112, rfl⟩
abbrev main_while0b_v95 : Ref sig .tc := ⟨.hbm, 113, rfl⟩
abbrev main_while0b_c_26 : Ref sig .tc := ⟨.hbm, 114, rfl⟩
abbrev main_while0b_v96 : Ref sig .tc := ⟨.hbm, 115, rfl⟩
abbrev main_while0b_v97 : Ref sig .tc := ⟨.hbm, 116, rfl⟩
abbrev main_while0b_v98 : Ref sig .tc := ⟨.hbm, 117, rfl⟩
abbrev main_while0b_cst_27 : Ref sig .tc := ⟨.hbm, 118, rfl⟩
abbrev main_while0b_v99 : Ref sig .tc := ⟨.hbm, 119, rfl⟩
abbrev main_while0b_v100 : Ref sig .tc := ⟨.hbm, 120, rfl⟩
abbrev main_while0b_v101 : Ref sig .tc := ⟨.hbm, 121, rfl⟩
abbrev main_while0b_v102 : Ref sig .tc := ⟨.hbm, 122, rfl⟩
abbrev main_while0b_v103 : Ref sig .tc := ⟨.hbm, 123, rfl⟩
abbrev main_while0b_v104 : Ref sig .tc := ⟨.hbm, 124, rfl⟩
abbrev main_while0b_v105 : Ref sig .tc := ⟨.hbm, 125, rfl⟩
abbrev main_while0b_v106 : Ref sig .tc := ⟨.hbm, 126, rfl⟩
abbrev main_while0b_v107 : Ref sig .tc := ⟨.hbm, 127, rfl⟩
abbrev main_while0b_c_28 : Ref sig .tc := ⟨.hbm, 128, rfl⟩
abbrev main_while0b_v108 : Ref sig .tc := ⟨.hbm, 129, rfl⟩
abbrev main_v65 : Ref sig .tc := ⟨.hbm, 130, rfl⟩
abbrev main_c_10 : Ref sig .tc := ⟨.hbm, 131, rfl⟩
abbrev main_v66 : Ref sig .tc := ⟨.hbm, 132, rfl⟩
abbrev main_c_11 : Ref sig .tc := ⟨.hbm, 133, rfl⟩
abbrev main_v67 : Ref sig .tc := ⟨.hbm, 134, rfl⟩
abbrev main_v68 : Ref sig .tc := ⟨.hbm, 135, rfl⟩
abbrev main_c_12 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩

abbrev nD : Nat := 1
abbrev τ : Topo := Topo.v7x

variable {F : FTy → Type} [FloatOps F]

abbrev main_while0_count : Scf.Loop 32 := ⟨0#32, 5000#32, 1#32⟩
-- ==== Proof.PI.Common.lean ====
/-
  The idealized kernel: what its body computes, as functions of what it loads. The kernel sweeps the 40 tiles of 128
  rows; one sweep turns the kept flags (a row vector `kr` and a column vector `kc`) into the next ones; the sweep is
  repeated until the row flags stop changing or 5120 sweeps have run.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Tactic
public import Idealize.ShloMosaic.Lib.WordCmp

@[expose] public section

noncomputable section

namespace Cert.Proof.PI

open Cert.KernelIdeal Cert.KernelIdeal.Gen
open Idealize.ShloMosaic Idealize.ShloMosaic.TcCoe

variable {F : FTy → Type} [FloatOps F]

/-- The trip count of the inner loop is 40. -/
theorem trips_eq : k0_t1_loop.trips = 40 := by decide +kernel

/-- What every sweep reads and none changes: the four coordinate rows, the row of areas, the row of weights, the row
    of indices, the boxes and the column of weights. -/
structure Env (F : FTy → Type) where
  x1 : FVec F S1x5120 .f32
  y1 : FVec F S1x5120 .f32
  x2 : FVec F S1x5120 .f32
  y2 : FVec F S1x5120 .f32
  area : FVec F S1x5120 .f32
  wRow : FVec F S1x5120 .f32
  idx : IVec S1x5120 32
  boxes : FVec F S5120x4 .f32
  wCol : FVec F S5120x1 .f32

/-- The rows of tile `t` of a 5120x4 array. -/
def tile4 (f : FVec F S5120x4 .f32) (t : Fin k0_t1_loop.trips) : FVec F S128x4 .f32 :=
  fun x => f ((Rect.unit (s := S5120x4) (k0_off1 t) S128x4.size (k0_off1_inb t)).emb x)

/-- The rows of tile `t` of a column. -/
def tile1 (f : FVec F S5120x1 .f32) (t : Fin k0_t1_loop.trips) : FVec F S128x1 .f32 :=
  fun x => f ((Rect.unit (s := S5120x1) (k0_off2 t) S128x1.size (k0_off2_inb t)).emb x)

/-- Which boxes overlap a box of tile `t`. -/
def ovl (E : Env F) (t : Fin k0_t1_loop.trips) : IVec S128x5120 1 :=
  k0_pay20 E.x1 E.y1 E.x2 E.y2 E.area (tile4 E.boxes t)
/-- Where a weight of tile `t` is greater, -/
def wGt (E : Env F) (t : Fin k0_t1_loop.trips) : IVec S128x5120 1 := k0_pay22 E.wRow (tile1 E.wCol t)
/-- and where it is equal. -/
def wEq (E : Env F) (t : Fin k0_t1_loop.trips) : IVec S128x5120 1 := k0_pay23 E.wRow (tile1 E.wCol t)

/-- The row of votes after the first `n` tiles, from the column of flags `kc`. -/
def votesTo (E : Env F) (kc : FVec F S5120x1 .f32) : Nat → FVec F S1x5120 .f32
  | 0 => k0_pay5
  | n + 1 => if h : n < k0_t1_loop.trips then
      k0_pay7 (votesTo E kc n) (ovl E ⟨n, h⟩) (wGt E ⟨n, h⟩) (wEq E ⟨n, h⟩) (k0_pay24 0#32 1#32 ⟨n, h⟩) (k0_pay25 E.idx)
        (tile1 kc ⟨n, h⟩)
    else votesTo E kc n

theorem votesTo_succ (E : Env F) (kc : FVec F S5120x1 .f32) (t : Fin k0_t1_loop.trips) :
    votesTo E kc (t.val + 1) = k0_pay7 (votesTo E kc t.val) (ovl E t) (wGt E t) (wEq E t) (k0_pay24 0#32 1#32 t)
      (k0_pay25 E.idx) (tile1 kc t) := by
  rw [votesTo, dif_pos t.isLt]

/-- The votes against the rows of tile `t`, from the row of flags `kr`. -/
def voteTile (E : Env F) (kr : FVec F S1x5120 .f32) (t : Fin k0_t1_loop.trips) : FVec F S128x1 .f32 :=
  k0_pay8 E.idx kr (ovl E t) (k0_pay21 0#32 1#32 t) (wGt E t) (wEq E t) (k0_pay24 0#32 1#32 t) (k0_pay25 E.idx)

theorem tileOf_lt (i : S5120x1.Idx) : (i 0).val / 128 < k0_t1_loop.trips := by
  rw [trips_eq]
  have h : (i 0).val < 5120 := (i 0).isLt
  omega

/-- The index within its tile of row `i`. -/
def inTile (i : S5120x1.Idx) : S128x1.Idx := fun a => match a with
  | ⟨0, _⟩ => ⟨(i 0).val % 128, Nat.mod_lt _ (by decide)⟩
  | ⟨1, _⟩ => ⟨0, Nat.zero_lt_one⟩

/-- The column of votes, tile by tile. -/
def voteCol (E : Env F) (kr : FVec F S1x5120 .f32) : FVec F S5120x1 .f32 :=
  fun i => voteTile E kr ⟨(i 0).val / 128, tileOf_lt i⟩ (inTile i)

/-- One sweep's row flags, -/
def nextKr (E : Env F) (kc : FVec F S5120x1 .f32) : FVec F S1x5120 .f32 := k0_pay9 (votesTo E kc k0_t1_loop.trips)
/-- its column flags, -/
def nextKc (E : Env F) (kr : FVec F S1x5120 .f32) : FVec F S5120x1 .f32 := k0_pay10 (voteCol E kr)
/-- and whether a row flag changed. -/
def chg (E : Env F) (kr : FVec F S1x5120 .f32) (kc : FVec F S5120x1 .f32) : BitVec 1 :=
  Scalar.cmpf .ogt (k0_pay11 kr (votesTo E kc k0_t1_loop.trips)) (Scalar.ofBits .f32 0x00000000#32)

/-- The column of flags the loop ends with when at most `n` sweeps are left, from the flags `kr`, `kc` and the word
    `b` saying whether the last sweep changed something. -/
def loopFrom (E : Env F) : Nat → BitVec 1 → FVec F S1x5120 .f32 → FVec F S5120x1 .f32 → FVec F S5120x1 .f32
  | 0, _, _, kc => kc
  | n + 1, b, kr, kc => if b = 1#1 then loopFrom E n (chg E kr kc) (nextKr E kc) (nextKc E kr) else kc

/-- The sweep counter's test. -/
theorem test_eq (j : Nat) (hj : j ≤ 5120) (b : BitVec 1) :
    Scalar.andi b (Scalar.cmpi .slt (BitVec.ofNat 32 j) 5120#32) = if j < 5120 then b else 0#1 := by
  have h0 : Scalar.cmpi .slt (BitVec.ofNat 32 j) 5120#32 = BitVec.ofBool (decide (j < 5120)) :=
    WordCmp.cmpi_slt_ofNat (w := 32) (a := j) (b := 5120) (by omega) (by omega)
  rw [h0]
  by_cases h : j < 5120
  · rw [if_pos h, decide_eq_true h]; revert b; decide
  · rw [if_neg h, decide_eq_false h]; revert b; decide

/-- Reading the buffers' contents: the rows, -/
def row4 (f : FVec F S4x5120 .f32) (r : Nat) (h : ∀ a, (![r, 0] : Fin 2 → Nat) a + S1x5120.size a ≤ S4x5120.size a) : FVec F S1x5120 .f32 :=
  fun x => f ((Rect.unit (s := S4x5120) ![r, 0] S1x5120.size h).emb x)

/-- what the sweeps read, from the seven operands of the kernel, -/
def env (b0 : FVec F S5120x4 .f32) (bT : FVec F S4x5120 .f32) (sT : FVec F S1x5120 .f32) (uT : FVec F S4x5120 .f32)
    (sc : FVec F S5120x1 .f32) (un : FVec F S5120x4 .f32) : Env F where
  x1 := k0_pay12 (row4 bT 0 inb_S4x5120_S1x5120_0_0)
  y1 := k0_pay13 (row4 bT 1 inb_S4x5120_S1x5120_1_0)
  x2 := k0_pay14 (row4 bT 2 inb_S4x5120_S1x5120_2_0)
  y2 := k0_pay15 (row4 bT 3 inb_S4x5120_S1x5120_3_0)
  area := k0_pay16 (row4 bT 0 inb_S4x5120_S1x5120_0_0) (row4 bT 1 inb_S4x5120_S1x5120_1_0)
    (row4 bT 2 inb_S4x5120_S1x5120_2_0) (row4 bT 3 inb_S4x5120_S1x5120_3_0)
  wRow := k0_pay17 (row4 uT 0 inb_S4x5120_S1x5120_0_0) (row4 uT 1 inb_S4x5120_S1x5120_1_0)
    (row4 uT 2 inb_S4x5120_S1x5120_2_0) (row4 uT 3 inb_S4x5120_S1x5120_3_0) sT
  idx := iota .tc S1x5120 32 [1] iota_S1x5120_d1_w32
  boxes := b0
  wCol := k0_pay1 (k0_pay18 un) (k0_pay19 un) sc

/-- and the kernel's result. -/
def out (b0 : FVec F S5120x4 .f32) (bT : FVec F S4x5120 .f32) (sT : FVec F S1x5120 .f32) (uT : FVec F S4x5120 .f32)
    (sc : FVec F S5120x1 .f32) (un : FVec F S5120x4 .f32) (ct : FVec F S5120x64 .f32) : FVec F S5120x74 .f32 :=
  k0_pay4 (k0_pay18 un) b0 sc (env b0 bT sT uT sc un).wCol ct
    (loopFrom (env b0 bT sT uT sc un) 5120 1#1 k0_pay3 k0_pay2)

end Cert.Proof.PI

end
-- ==== Proof.PI.Body.lean ====
/-
  The idealized kernel: its body's triple. The inner loop by an invariant (the row of votes carried, the first tiles of
  the column of votes stored), the outer loop's label by induction on the number of sweeps still allowed, then the body:
  the loads, the weights and the ones stored into the scratch columns, the loop, the result stored.
-/
module

public import proofs.«01_k».proof.Proof.PI.Common

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open sWPT (consume produce)

variable {F : FTy → Type} [FloatOps F]

local notation "𝕄" => MT nD τ sig Unit (Elt F) ℕ (UR sig nD τ) ℕ

/-- The kernel's variants: how many sweeps are still allowed. -/
abbrev 𝒱₀ : Variants := Variants.nat

/-! ### Whole-buffer accesses -/

theorem off00 : (![0, 0] : Fin 2 → Nat) = fun _ => 0 := funext fun a => by fin_cases a <;> rfl

/-- A store over a whole scratch column leaves what was stored. -/
theorem write_s0 (f w : (cc0_scratch0 : Ref sig .tc).ty.Contents (Elt F)) :
    ((Memref.whole cc0_scratch0).access (Rect.unit (s := S5120x1) ![0, 0] S5120x1.size inb_S5120x1_S5120x1_0_0) : View sig .tc _ _ _).write (Elt F) f w Finset.univ = w :=
  Memref.write_access_unit_zero_univ (Elt F) cc0_scratch0 off00 _ f w
theorem write_s1 (f w : (cc0_scratch1 : Ref sig .tc).ty.Contents (Elt F)) :
    ((Memref.whole cc0_scratch1).access (Rect.unit (s := S5120x1) ![0, 0] S5120x1.size inb_S5120x1_S5120x1_0_0) : View sig .tc _ _ _).write (Elt F) f w Finset.univ = w :=
  Memref.write_access_unit_zero_univ (Elt F) cc0_scratch1 off00 _ f w
theorem write_o (f w : (cc0_stg7_0 : Ref sig .tc).ty.Contents (Elt F)) :
    ((Memref.whole cc0_stg7_0).access (Rect.unit (s := S5120x74) ![0, 0] S5120x74.size inb_S5120x74_S5120x74_0_0) : View sig .tc _ _ _).write (Elt F) f w Finset.univ = w :=
  Memref.write_access_unit_zero_univ (Elt F) cc0_stg7_0 off00 _ f w

/-- A load of a whole buffer reads its contents. -/
theorem read_s0 (f : (cc0_scratch0 : Ref sig .tc).ty.Contents (Elt F)) :
    (Memref.whole cc0_scratch0 : Memref sig .tc _ _ _).view.readAt (Elt F) (Rect.unit (s := S5120x1) ![0, 0] S5120x1.size inb_S5120x1_S5120x1_0_0).toLoadRect f = f :=
  Memref.readAt_unit_zero (Elt F) cc0_scratch0 off00 _ f
theorem read_s1 (f : (cc0_scratch1 : Ref sig .tc).ty.Contents (Elt F)) :
    (Memref.whole cc0_scratch1 : Memref sig .tc _ _ _).view.readAt (Elt F) (Rect.unit (s := S5120x1) ![0, 0] S5120x1.size inb_S5120x1_S5120x1_0_0).toLoadRect f = f :=
  Memref.readAt_unit_zero (Elt F) cc0_scratch1 off00 _ f
theorem read_s2 (f : (cc0_scratch2 : Ref sig .tc).ty.Contents (Elt F)) :
    (Memref.whole cc0_scratch2 : Memref sig .tc _ _ _).view.readAt (Elt F) (Rect.unit (s := S5120x1) ![0, 0] S5120x1.size inb_S5120x1_S5120x1_0_0).toLoadRect f = f :=
  Memref.readAt_unit_zero (Elt F) cc0_scratch2 off00 _ f
theorem read_g0 (f : (cc0_stg0_0 : Ref sig .tc).ty.Contents (Elt F)) :
    (Memref.whole cc0_stg0_0 : Memref sig .tc _ _ _).view.readAt (Elt F) (Rect.unit (s := S5120x4) ![0, 0] S5120x4.size inb_S5120x4_S5120x4_0_0).toLoadRect f = f :=
  Memref.readAt_unit_zero (Elt F) cc0_stg0_0 off00 _ f
theorem read_g2 (f : (cc0_stg2_0 : Ref sig .tc).ty.Contents (Elt F)) :
    (Memref.whole cc0_stg2_0 : Memref sig .tc _ _ _).view.readAt (Elt F) (Rect.unit (s := S1x5120) ![0, 0] S1x5120.size inb_S1x5120_S1x5120_0_0).toLoadRect f = f :=
  Memref.readAt_unit_zero (Elt F) cc0_stg2_0 off00 _ f
theorem read_g4 (f : (cc0_stg4_0 : Ref sig .tc).ty.Contents (Elt F)) :
    (Memref.whole cc0_stg4_0 : Memref sig .tc _ _ _).view.readAt (Elt F) (Rect.unit (s := S5120x1) ![0, 0] S5120x1.size inb_S5120x1_S5120x1_0_0).toLoadRect f = f :=
  Memref.readAt_unit_zero (Elt F) cc0_stg4_0 off00 _ f
theorem read_g5 (f : (cc0_stg5_0 : Ref sig .tc).ty.Contents (Elt F)) :
    (Memref.whole cc0_stg5_0 : Memref sig .tc _ _ _).view.readAt (Elt F) (Rect.unit (s := S5120x4) ![0, 0] S5120x4.size inb_S5120x4_S5120x4_0_0).toLoadRect f = f :=
  Memref.readAt_unit_zero (Elt F) cc0_stg5_0 off00 _ f
theorem read_g6 (f : (cc0_stg6_0 : Ref sig .tc).ty.Contents (Elt F)) :
    (Memref.whole cc0_stg6_0 : Memref sig .tc _ _ _).view.readAt (Elt F) (Rect.unit (s := S5120x64) ![0, 0] S5120x64.size inb_S5120x64_S5120x64_0_0).toLoadRect f = f :=
  Memref.readAt_unit_zero (Elt F) cc0_stg6_0 off00 _ f

/-! ### The tile accesses -/

/-- The store of a tile into the column of votes: the rows below the tile's end are the column's if those below its
    start were. -/
theorem write_tile (E : Env F) (kr : FVec F S1x5120 .f32) (t : Fin k0_t1_loop.trips) (f : FVec F S5120x1 .f32)
    (hf : ∀ i : S5120x1.Idx, (i 0).val < 128 * t.val → f i = voteCol E kr i) :
    ∀ i : S5120x1.Idx, (i 0).val < 128 * (t.val + 1) →
      (((Memref.whole cc0_scratch2).access (Rect.unit (s := S5120x1) (k0_off2 t) S128x1.size (k0_off2_inb t)) : View sig .tc _ _ _).write (Elt F) f
        (voteTile E kr t) Finset.univ : FVec F S5120x1 .f32) i = voteCol E kr i := by
  intro i hi
  have ht : t.val < 40 := lt_of_lt_of_eq t.isLt trips_eq
  have h0 : k0_off2 t 0 = 128 * t.val := congrFun (k0_off2_eq t) 0
  have h1 : k0_off2 t 1 = 0 := congrFun (k0_off2_eq t) 1
  have hi1 : (i 1).val = 0 := by have : (i 1).val < 1 := (i 1).isLt; omega
  by_cases hlt : (i 0).val < 128 * t.val
  · rw [← hf i hlt]
    refine View.write_of_not_mem _ _ _ ?_
    intro hmem
    obtain ⟨x, -, hx⟩ := Finset.mem_map.mp hmem
    have := congrArg (fun j : S5120x1.Idx => (j 0).val) hx
    have e : k0_off2 t 0 + 1 * (x 0).val = (i 0).val := this
    omega
  · have hq : (i 0).val / 128 = t.val := by omega
    have e : ((Memref.whole cc0_scratch2).access (Rect.unit (s := S5120x1) (k0_off2 t) S128x1.size (k0_off2_inb t)) : View sig .tc _ _ _).emb (inTile i) = i := by
      funext a
      fin_cases a
      · refine Fin.ext ?_
        show k0_off2 t 0 + 1 * ((i 0).val % 128) = (i 0).val
        omega
      · refine Fin.ext ?_
        show k0_off2 t 1 + 1 * 0 = (i 1).val
        omega
    have h := View.write_emb_of_mem (v := ((Memref.whole cc0_scratch2).access (Rect.unit (s := S5120x1) (k0_off2 t) S128x1.size (k0_off2_inb t)) : View sig .tc _ _ _))
      (Val := Elt F) f (voteTile E kr t) (M := Finset.univ) (x := inTile i) (Finset.mem_univ _)
    rw [e] at h
    refine Eq.trans h ?_
    have hE : (⟨(i 0).val / 128, tileOf_lt i⟩ : Fin k0_t1_loop.trips) = t := Fin.ext hq
    unfold voteCol
    rw [hE]
    rfl

/-! ### The inner loop -/

/-- The inner loop's invariant after `n` tiles: the carried row is the votes so far, and the column of votes is right
    on the first `n` tiles; the buffers read are held. -/
def inner (c : Dev nD) (E : Env F) (kr : FVec F S1x5120 .f32) (kc : FVec F S5120x1 .f32) (n : Nat) (acc : FVec F S1x5120 .f32) : sProp 𝕄 :=
  iprop(⌜acc = votesTo E kc n⌝ ∗ (((c : Thread nD τ).loc cc0_stg0_0) ↦{fullShare} E.boxes) ∗ (((c : Thread nD τ).loc cc0_scratch0) ↦{fullShare} E.wCol)
    ∗ (((c : Thread nD τ).loc cc0_scratch1) ↦{fullShare} kc)
    ∗ (∃ f : Buf (Elt F) ((c : Thread nD τ).loc cc0_scratch2), ⌜∀ i : S5120x1.Idx, (i 0).val < 128 * n → (f : FVec F S5120x1 .f32) i = voteCol E kr i⌝
        ∗ (((c : Thread nD τ).loc cc0_scratch2) ↦{fullShare} f)))

/-- What the loop holds between sweeps: the boxes, the weights, the column of flags, the column of votes at anything. -/
def held (c : Dev nD) (E : Env F) (kc : FVec F S5120x1 .f32) : sProp 𝕄 :=
  iprop((((c : Thread nD τ).loc cc0_stg0_0) ↦{fullShare} E.boxes) ∗ (((c : Thread nD τ).loc cc0_scratch0) ↦{fullShare} E.wCol)
    ∗ (((c : Thread nD τ).loc cc0_scratch1) ↦{fullShare} kc)
    ∗ (∃ f : Buf (Elt F) ((c : Thread nD τ).loc cc0_scratch2), (((c : Thread nD τ).loc cc0_scratch2) ↦{fullShare} f)))

/-- The outer loop's specification: from the flags `kr`, `kc` with `n` sweeps allowed it returns, the column of flags at
    `loopFrom`. -/
def spec (c : Dev nD) (E : Env F) (n : Nat) (b : BitVec 1) (kr : FVec F S1x5120 .f32) (kc : FVec F S5120x1 .f32) :
    sWPT 𝕄 (BitVec 32 × BitVec 1 × FVec F S1x5120 .f32) := do
  sWPT.consume (held c E kc)
  let r ← sWPT.arbitrary
  sWPT.produce (held c E (loopFrom E n b kr kc))
  pure r

theorem spec_apply (c : Dev nD) (E : Env F) (n : Nat) (b : BitVec 1) (kr : FVec F S1x5120 .f32) (kc : FVec F S5120x1 .f32)
    (K : BitVec 32 × BitVec 1 × FVec F S1x5120 .f32 → sProp 𝕄) :
    spec c E n b kr kc K = iprop(held c E kc ∗ ∀ r, (held c E (loopFrom E n b kr kc) -∗ K r)) := rfl

/-- The call of the outer loop's label with the buffers and what every sweep reads. -/
abbrev args (E : Env F) (cnt : BitVec 32) (b : BitVec 1) (kr : FVec F S1x5120 .f32) : Cc0While1 F :=
  ⟨Memref.whole cc0_stg0_0, Memref.isWhole_whole _, E.x1, E.y1, E.x2, E.y2, E.area, Memref.whole cc0_scratch0, Memref.isWhole_whole _,
    E.wRow, E.idx, Memref.whole cc0_scratch1, Memref.isWhole_whole _, Memref.whole cc0_scratch2, Memref.isWhole_whole _, cnt, b, kr⟩

theorem spec_le (c : Dev nD) (E : Env F) (Es : Set ℕ) :
    ∀ n j, j + n = 5120 → ∀ b kr kc K, spec c E n b kr kc K
      ⊢ wp frame (wpE (defs₀ (F := F)) 𝒱₀ (c : Thread nD τ) (some n)) Es
          (defs₀ (F := F) .tc 1 (args E (BitVec.ofNat 32 j) b kr)) K := by
  intro n
  induction n with
  | zero =>
    intro j hj b kr kc K
    rw [spec_apply]
    show _ ⊢ wp frame (wpE (defs₀ (F := F)) 𝒱₀ (c : Thread nD τ) (some 0)) Es (cc0_while1 _ _ _ _ _ _ _ _ _ _ _ _ _ _ _ _ _ _) K
    simp only [cc0_while1_eq_skeleton]; unfold cc0_while1_skel
    have ht : Scalar.andi b (Scalar.cmpi .slt (BitVec.ofNat 32 j) 5120#32) = 0#1 := by
      rw [test_eq j (by omega) b, if_neg (by omega)]
    simp only [ht, show ¬ ((0#1 : BitVec 1) = 1#1) from by decide, ↓reduceIte, Prog.pure_eq_ret]
    iintro ⟨H, Hk⟩
    rw [wp_ret]; imodintro
    iapply Hk
    iexact H
  | succ n ih =>
    intro j hj b kr kc K
    rw [spec_apply]
    show _ ⊢ wp frame (wpE (defs₀ (F := F)) 𝒱₀ (c : Thread nD τ) (some (n + 1))) Es (cc0_while1 _ _ _ _ _ _ _ _ _ _ _ _ _ _ _ _ _ _) K
    simp only [cc0_while1_eq_skeleton]; unfold cc0_while1_skel
    have ht : Scalar.andi b (Scalar.cmpi .slt (BitVec.ofNat 32 j) 5120#32) = b := by
      rw [test_eq j (by omega) b, if_pos (by omega)]
    by_cases hb : b = 1#1
    · subst hb
      rw [if_pos ht]
      unfold held
      iintro ⟨⟨H0, Hw, Hk1, ⟨%f, Hv⟩⟩, Hk⟩
      iapply (Scf.wp_for_bind frame (wpE (defs₀ (F := F)) 𝒱₀ (c : Thread nD τ) (some (n + 1))) Es _ _ _ k0_t1_ok _ _ (inner c E kr kc) (by
        intro t acc
        simp only [k0_part2_eq_skeleton]; unfold k0_part2_skel
        simp only [Prog.lift, Prog.bind_op, Prog.bind_ret, Prog.pure_eq_ret]
        unfold inner
        iintro ⟨%hacc, H0, Hw, Hk1, ⟨%f, %hf, Hv⟩⟩
        iapply (wp_load 𝒱₀ (c : Thread nD τ) (some (n + 1)) Es (m := Memref.whole cc0_stg0_0) (Finset.subset_univ _)) $$ H0; iintro H0
        iapply (wp_load 𝒱₀ (c : Thread nD τ) (some (n + 1)) Es (m := Memref.whole cc0_scratch0) (Finset.subset_univ _)) $$ Hw; iintro Hw
        iapply (wp_load 𝒱₀ (c : Thread nD τ) (some (n + 1)) Es (m := Memref.whole cc0_scratch1) (Finset.subset_univ _)) $$ Hk1; iintro Hk1
        iapply (wp_load 𝒱₀ (c : Thread nD τ) (some (n + 1)) Es (m := Memref.whole cc0_scratch2) (Finset.subset_univ _)) $$ Hv; iintro Hv
        iapply (wp_store 𝒱₀ (c : Thread nD τ) (some (n + 1)) Es (m := Memref.whole cc0_scratch2) (r := Rect.unit (s := S5120x1) (k0_off2 t) S128x1.size (k0_off2_inb t)) (Mk := Finset.univ) (Finset.subset_univ _)) $$ Hv; iintro Hv
        rw [wp_ret]; imodintro
        isplitr
        · ipureintro; rw [votesTo_succ, hacc]; rfl
        isplitl [H0]; · iexact H0
        isplitl [Hw]; · iexact Hw
        isplitl [Hk1]; · iexact Hk1
        iexists _; isplitr
        swap; · iexact Hv
        ipureintro; exact write_tile E kr t f hf)) $$ [H0 Hw Hk1 Hv]
      · unfold inner
        isplitr; · ipureintro; rfl
        isplitl [H0]; · iexact H0
        isplitl [Hw]; · iexact Hw
        isplitl [Hk1]; · iexact Hk1
        iexists _; isplitr
        swap; · iexact Hv
        ipureintro; intro i hi; exact absurd hi (by omega)
      iintro %acc Hinv
      unfold inner
      icases Hinv with ⟨%hacc, H0, Hw, Hk1, ⟨%g, %hg, Hv⟩⟩
      have hg' : (g : FVec F S5120x1 .f32) = voteCol E kr := by
        funext i
        refine hg i ?_
        have h1 : (i 0).val < 5120 := (i 0).isLt
        have h2 : Scf.trips k0_t1_loop.lb k0_t1_loop.ub k0_t1_loop.st = 40 := trips_eq
        omega
      subst hacc hg'
      simp only [Prog.lift, Prog.bind_op, Prog.bind_ret, Prog.pure_eq_ret]
      iapply (wp_load 𝒱₀ (c : Thread nD τ) (some (n + 1)) Es (m := Memref.whole cc0_scratch2) (Finset.subset_univ _)) $$ Hv; iintro Hv
      iapply (wp_load 𝒱₀ (c : Thread nD τ) (some (n + 1)) Es (m := Memref.whole cc0_scratch1) (Finset.subset_univ _)) $$ Hk1; iintro Hk1
      iapply (wp_store 𝒱₀ (c : Thread nD τ) (some (n + 1)) Es (m := Memref.whole cc0_scratch1) (r := Rect.unit (s := S5120x1) ![0, 0] S5120x1.size inb_S5120x1_S5120x1_0_0) (Mk := Finset.univ) (Finset.subset_univ _)) $$ Hk1; iintro Hk1
      have hcnt : Scalar.addi (BitVec.ofNat 32 j) 1#32 = BitVec.ofNat 32 (j + 1) := (BitVec.ofNat_add j 1).symm
      rw [hcnt]
      erw [write_s1, read_s2]
      iapply (wp_call_spec 𝒱₀ (c : Thread nD τ) (some (n + 1)) Es (spec c E n (chg E kr kc) (nextKr E kc) (nextKc E kr)) n
        (fun u hu => by cases hu; exact Nat.lt_succ_self n) (ih (j + 1) (by omega) (chg E kr kc) (nextKr E kc) (nextKc E kr)))
      rw [spec_apply]
      isplitl [H0 Hw Hk1 Hv]
      · unfold held
        isplitl [H0]; · iexact H0
        isplitl [Hw]; · iexact Hw
        isplitl [Hk1]; · iexact Hk1
        iexists _; iexact Hv
      iintro %r H
      rw [wp_ret]; imodintro
      iapply Hk
      rw [show loopFrom E (n + 1) 1#1 kr kc = loopFrom E n (chg E kr kc) (nextKr E kc) (nextKc E kr) from by
        rw [loopFrom, if_pos rfl]]
      unfold held
      iexact H
    · rw [if_neg (by rw [ht]; exact hb)]
      simp only [Prog.pure_eq_ret]
      iintro ⟨H, Hk⟩
      rw [wp_ret]; imodintro
      iapply Hk
      rw [show loopFrom E (n + 1) b kr kc = kc from by rw [loopFrom, if_neg hb]]
      iexact H

end Cert.Proof.PI

end
-- ==== Proof.PI.Run.lean ====
/-
  The idealized kernel: the body from its staged operands to its staged result, the pipeline's data, the launch, and the
  final contents of the arguments and of the result.
-/
module

public import proofs.«01_k».proof.Proof.PI.Body

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel's body with its operands staged. -/
abbrev bodyProg : Prog (TpuEff nD τ sig (Elt F) (Λ₀ F) .tc) PUnit :=
  cc0__nms_kernel (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _)
    (Memref.whole cc0_scratch2) (Memref.isWhole_whole _)

set_option maxRecDepth 65536 in
set_option maxHeartbeats 1000000 in
theorem body_run (c : Dev nD) (b0 : FVec F S5120x4 .f32) (bT : FVec F S4x5120 .f32) (sT : FVec F S1x5120 .f32) (uT : FVec F S4x5120 .f32)
    (sc : FVec F S5120x1 .f32) (un : FVec F S5120x4 .f32) (ct : FVec F S5120x64 .f32) (o : FVec F S5120x74 .f32)
    (s0 s1 s2 : FVec F S5120x1 .f32) (Q : PUnit → sProp 𝕄) :
    iprop((((c : Thread nD τ).loc cc0_stg0_0) ↦{fullShare} (b0 : Buf (Elt F) ((c : Thread nD τ).loc cc0_stg0_0)))
      ∗ (((c : Thread nD τ).loc cc0_stg1_0) ↦{fullShare} (bT : Buf (Elt F) ((c : Thread nD τ).loc cc0_stg1_0)))
      ∗ (((c : Thread nD τ).loc cc0_stg2_0) ↦{fullShare} (sT : Buf (Elt F) ((c : Thread nD τ).loc cc0_stg2_0)))
      ∗ (((c : Thread nD τ).loc cc0_stg3_0) ↦{fullShare} (uT : Buf (Elt F) ((c : Thread nD τ).loc cc0_stg3_0)))
      ∗ (((c : Thread nD τ).loc cc0_stg4_0) ↦{fullShare} (sc : Buf (Elt F) ((c : Thread nD τ).loc cc0_stg4_0)))
      ∗ (((c : Thread nD τ).loc cc0_stg5_0) ↦{fullShare} (un : Buf (Elt F) ((c : Thread nD τ).loc cc0_stg5_0)))
      ∗ (((c : Thread nD τ).loc cc0_stg6_0) ↦{fullShare} (ct : Buf (Elt F) ((c : Thread nD τ).loc cc0_stg6_0)))
      ∗ (((c : Thread nD τ).loc cc0_stg7_0) ↦{fullShare} (o : Buf (Elt F) ((c : Thread nD τ).loc cc0_stg7_0)))
      ∗ (((c : Thread nD τ).loc cc0_scratch0) ↦{fullShare} (s0 : Buf (Elt F) ((c : Thread nD τ).loc cc0_scratch0)))
      ∗ (((c : Thread nD τ).loc cc0_scratch1) ↦{fullShare} (s1 : Buf (Elt F) ((c : Thread nD τ).loc cc0_scratch1)))
      ∗ (((c : Thread nD τ).loc cc0_scratch2) ↦{fullShare} (s2 : Buf (Elt F) ((c : Thread nD τ).loc cc0_scratch2)))
      ∗ (((((c : Thread nD τ).loc cc0_stg0_0) ↦{fullShare} (b0 : Buf (Elt F) ((c : Thread nD τ).loc cc0_stg0_0)))
          ∗ (((c : Thread nD τ).loc cc0_stg1_0) ↦{fullShare} (bT : Buf (Elt F) ((c : Thread nD τ).loc cc0_stg1_0)))
          ∗ (((c : Thread nD τ).loc cc0_stg2_0) ↦{fullShare} (sT : Buf (Elt F) ((c : Thread nD τ).loc cc0_stg2_0)))
          ∗ (((c : Thread nD τ).loc cc0_stg3_0) ↦{fullShare} (uT : Buf (Elt F) ((c : Thread nD τ).loc cc0_stg3_0)))
          ∗ (((c : Thread nD τ).loc cc0_stg4_0) ↦{fullShare} (sc : Buf (Elt F) ((c : Thread nD τ).loc cc0_stg4_0)))
          ∗ (((c : Thread nD τ).loc cc0_stg5_0) ↦{fullShare} (un : Buf (Elt F) ((c : Thread nD τ).loc cc0_stg5_0)))
          ∗ (((c : Thread nD τ).loc cc0_stg6_0) ↦{fullShare} (ct : Buf (Elt F) ((c : Thread nD τ).loc cc0_stg6_0)))
          ∗ (((c : Thread nD τ).loc cc0_stg7_0) ↦{fullShare} (out b0 bT sT uT sc un ct : Buf (Elt F) ((c : Thread nD τ).loc cc0_stg7_0)))
          ∗ (∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)
          ∗ (∃ f : Buf (Elt F) ((c : Thread nD τ).loc cc0_scratch2), ((c : Thread nD τ).loc cc0_scratch2) ↦{fullShare} f)) -∗ Q ⟨⟩))
      ⊢ wp frame (wpE (defs₀ (F := F)) 𝒱₀ (c : Thread nD τ) none) Set.univ bodyProg Q := by
  unfold bodyProg
  rw [cc0__nms_kernel_eq_skeleton]; unfold cc0__nms_kernel_skel
  rw [k0_part1_eq_skeleton]; unfold k0_part1_skel
  simp only [Prog.lift, Prog.bind_op, Prog.bind_ret, Prog.pure_eq_ret]
  iintro ⟨H0, H1, H2, H3, H4, H5, H6, H7, Hw, Hk1, Hv, Hk⟩
  iapply (wp_load 𝒱₀ (c : Thread nD τ) none Set.univ (m := Memref.whole cc0_stg1_0) (Finset.subset_univ _)) $$ H1; iintro H1
  iapply (wp_load 𝒱₀ (c : Thread nD τ) none Set.univ (m := Memref.whole cc0_stg1_0) (Finset.subset_univ _)) $$ H1; iintro H1
  iapply (wp_load 𝒱₀ (c : Thread nD τ) none Set.univ (m := Memref.whole cc0_stg1_0) (Finset.subset_univ _)) $$ H1; iintro H1
  iapply (wp_load 𝒱₀ (c : Thread nD τ) none Set.univ (m := Memref.whole cc0_stg1_0) (Finset.subset_univ _)) $$ H1; iintro H1
  iapply (wp_load 𝒱₀ (c : Thread nD τ) none Set.univ (m := Memref.whole cc0_stg3_0) (Finset.subset_univ _)) $$ H3; iintro H3
  iapply (wp_load 𝒱₀ (c : Thread nD τ) none Set.univ (m := Memref.whole cc0_stg3_0) (Finset.subset_univ _)) $$ H3; iintro H3
  iapply (wp_load 𝒱₀ (c : Thread nD τ) none Set.univ (m := Memref.whole cc0_stg3_0) (Finset.subset_univ _)) $$ H3; iintro H3
  iapply (wp_load 𝒱₀ (c : Thread nD τ) none Set.univ (m := Memref.whole cc0_stg3_0) (Finset.subset_univ _)) $$ H3; iintro H3
  iapply (wp_load 𝒱₀ (c : Thread nD τ) none Set.univ (m := Memref.whole cc0_stg2_0) (Finset.subset_univ _)) $$ H2; iintro H2
  iapply (wp_load 𝒱₀ (c : Thread nD τ) none Set.univ (m := Memref.whole cc0_stg5_0) (Finset.subset_univ _)) $$ H5; iintro H5
  iapply (wp_load 𝒱₀ (c : Thread nD τ) none Set.univ (m := Memref.whole cc0_stg4_0) (Finset.subset_univ _)) $$ H4; iintro H4
  iapply (wp_load 𝒱₀ (c : Thread nD τ) none Set.univ (m := Memref.whole cc0_scratch0) (Finset.subset_univ _)) $$ Hw; iintro Hw
  iapply (wp_store 𝒱₀ (c : Thread nD τ) none Set.univ (m := Memref.whole cc0_scratch0) (r := Rect.unit (s := S5120x1) ![0, 0] S5120x1.size inb_S5120x1_S5120x1_0_0) (Mk := Finset.univ) (Finset.subset_univ _)) $$ Hw; iintro Hw
  iapply (wp_load 𝒱₀ (c : Thread nD τ) none Set.univ (m := Memref.whole cc0_scratch1) (Finset.subset_univ _)) $$ Hk1; iintro Hk1
  iapply (wp_store 𝒱₀ (c : Thread nD τ) none Set.univ (m := Memref.whole cc0_scratch1) (r := Rect.unit (s := S5120x1) ![0, 0] S5120x1.size inb_S5120x1_S5120x1_0_0) (Mk := Finset.univ) (Finset.subset_univ _)) $$ Hk1; iintro Hk1
  rw [write_s0, write_s1, read_g2, read_g5, read_g4]
  iapply (wp_call_spec 𝒱₀ (c : Thread nD τ) none Set.univ (spec c (env b0 bT sT uT sc un) 5120 1#1 k0_pay3 k0_pay2) 5120
    (fun u hu => nomatch hu) (spec_le c (env b0 bT sT uT sc un) Set.univ 5120 0 rfl 1#1 k0_pay3 k0_pay2))
  rw [spec_apply]
  isplitl [H0 Hw Hk1 Hv]
  · unfold held
    isplitl [H0]; · iexact H0
    isplitl [Hw]; · iexact Hw
    isplitl [Hk1]; · iexact Hk1
    iexists _; iexact Hv
  iintro %r H
  unfold held
  icases H with ⟨H0, Hw, Hk1, ⟨%f, Hv⟩⟩
  iapply (wp_load 𝒱₀ (c : Thread nD τ) none Set.univ (m := Memref.whole cc0_stg0_0) (Finset.subset_univ _)) $$ H0; iintro H0
  iapply (wp_load 𝒱₀ (c : Thread nD τ) none Set.univ (m := Memref.whole cc0_stg4_0) (Finset.subset_univ _)) $$ H4; iintro H4
  iapply (wp_load 𝒱₀ (c : Thread nD τ) none Set.univ (m := Memref.whole cc0_scratch0) (Finset.subset_univ _)) $$ Hw; iintro Hw
  iapply (wp_load 𝒱₀ (c : Thread nD τ) none Set.univ (m := Memref.whole cc0_stg6_0) (Finset.subset_univ _)) $$ H6; iintro H6
  iapply (wp_load 𝒱₀ (c : Thread nD τ) none Set.univ (m := Memref.whole cc0_scratch1) (Finset.subset_univ _)) $$ Hk1; iintro Hk1
  iapply (wp_load 𝒱₀ (c : Thread nD τ) none Set.univ (m := Memref.whole cc0_stg7_0) (Finset.subset_univ _)) $$ H7; iintro H7
  iapply (wp_store 𝒱₀ (c : Thread nD τ) none Set.univ (m := Memref.whole cc0_stg7_0) (r := Rect.unit (s := S5120x74) ![0, 0] S5120x74.size inb_S5120x74_S5120x74_0_0) (Mk := Finset.univ) (Finset.subset_univ _)) $$ H7; iintro H7
  rw [write_o, read_g0, read_g4, read_g6, read_s0, read_s1]
  rw [wp_ret]; imodintro
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hw]; · iexists _; iexact Hw
  isplitl [Hk1]; · iexists _; iexact Hk1
  iexists _; iexact Hv

end Cert.Proof.PI

end
-- ==== Proof.PI.Launch.lean ====
/-
  The idealized kernel: the pipeline's data, the launch around the region, and the final contents of the arguments and of
  the result.
-/
module

public import proofs.«01_k».proof.Proof.PI.Run

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The host's operations before the region -/

/-- The buffers' contents when the region starts, -/
abbrev V0 (c : Dev nD) : Valuation τ sig (Elt F) :=
  StableHlo.after (List.flatten [hostOps0, hostOps0_1, hostOps0_2, hostOps0_3, hostOps0_4, hostOps0_5, hostOps0_6, hostOps0_7, hostOps0_8])
    (fun b => m (c, b))
/-- read at a TensorCore reference. -/
abbrev V (c : Dev nD) (b : Ref sig .tc) : Buf (Elt F) ((c : Thread nD τ).loc b) := V0 m c (Proc.devRef .tc b)

theorem fresh0 : (hostOps0 : List (HloOp τ sig (Elt F))).Forall fun op => op.fresh = ∅ := StableHlo.forall_fresh_of_map rfl
theorem fresh0_1 : (hostOps0_1 : List (HloOp τ sig (Elt F))).Forall fun op => op.fresh = ∅ := StableHlo.forall_fresh_of_map rfl
theorem fresh0_2 : (hostOps0_2 : List (HloOp τ sig (Elt F))).Forall fun op => op.fresh = ∅ := StableHlo.forall_fresh_of_map rfl
theorem fresh0_3 : (hostOps0_3 : List (HloOp τ sig (Elt F))).Forall fun op => op.fresh = ∅ := StableHlo.forall_fresh_of_map rfl
theorem fresh0_4 : (hostOps0_4 : List (HloOp τ sig (Elt F))).Forall fun op => op.fresh = ∅ := StableHlo.forall_fresh_of_map rfl
theorem fresh0_5 : (hostOps0_5 : List (HloOp τ sig (Elt F))).Forall fun op => op.fresh = ∅ := StableHlo.forall_fresh_of_map rfl
theorem fresh0_6 : (hostOps0_6 : List (HloOp τ sig (Elt F))).Forall fun op => op.fresh = ∅ := StableHlo.forall_fresh_of_map rfl
theorem fresh0_7 : (hostOps0_7 : List (HloOp τ sig (Elt F))).Forall fun op => op.fresh = ∅ := StableHlo.forall_fresh_of_map rfl
theorem fresh0_8 : (hostOps0_8 : List (HloOp τ sig (Elt F))).Forall fun op => op.fresh = ∅ := StableHlo.forall_fresh_of_map rfl
theorem fresh1 : (hostOps1 : List (HloOp τ sig (Elt F))).Forall fun op => op.fresh = ∅ := StableHlo.forall_fresh_of_map rfl

theorem hmain (𝒱 : Variants) : Pipeline.HMainK (Ix := Unit) (Name := ℕ) (U := UR sig nD τ) (Lvl := ℕ) cfgs 0 defs₀ 𝒱 m
    (main (F := F)) (V m) (fun _ => Pipeline.chain ([hostOps1].map StableHlo.seq)) :=
  Pipeline.hmain_around cfgs 0 defs₀ 𝒱 m main
    [hostOps0, hostOps0_1, hostOps0_2, hostOps0_3, hostOps0_4, hostOps0_5, hostOps0_6, hostOps0_7, hostOps0_8] [hostOps1]
    (by
      simp only [List.Forall]
      exact ⟨hostOps0_sub, hostOps0_1_sub, hostOps0_2_sub, hostOps0_3_sub, hostOps0_4_sub, hostOps0_5_sub, hostOps0_6_sub, hostOps0_7_sub, hostOps0_8_sub⟩)
    (by
      simp only [List.Forall]
      exact ⟨fresh0, fresh0_1, fresh0_2, fresh0_3, fresh0_4, fresh0_5, fresh0_6, fresh0_7, fresh0_8⟩)
    main_chain

theorem sfx_sub : ∀ ops ∈ [hostOps1 (F := F)], ∀ op ∈ ops, op.bufs ⊆ Pipeline.tailRefs sig Pipeline.Prefetch.none spec0 := by
  rw [Pipeline.tailRefs_none spec0 (launch0 (F := F)).win.arr_unscoped]
  intro ops hops op hop
  simp only [List.mem_cons, List.mem_nil_iff, or_false] at hops
  rcases hops with rfl
  exact Pipeline.sub_ucRefs op ((List.forall_iff_forall_mem.mp hostOps1_sub) op hop)
theorem sfx_fresh : ∀ ops ∈ [hostOps1 (F := F)], ∀ op ∈ ops, op.fresh = ∅ := by
  intro ops hops op hop
  simp only [List.mem_cons, List.mem_nil_iff, or_false] at hops
  rcases hops with rfl
  exact (List.forall_iff_forall_mem.mp fresh1) op hop
theorem sfx_keeps : ∀ ops ∈ [hostOps1 (F := F)], ∀ op ∈ ops, ∀ w, Proc.devRef .tc (Pipeline.arrRef spec0 w) ∉ op.writes := by
  intro ops hops op hop w
  simp only [List.mem_cons, List.mem_nil_iff, or_false] at hops
  rcases hops with rfl
  simp only [List.mem_cons, List.mem_nil_iff, or_false] at hop
  rcases hop with rfl
  fin_cases w <;> simp only [StableHlo.unary_writes, Finset.mem_singleton] <;> exact StableHlo.devRef_ne_of_ne (by decide)

/-! ### The pipeline's data -/

/-- The operands as fetched. -/
def blk0 (c : Dev nD) : FVec F S5120x4 .f32 := (win0_0.blk t0_0).view.read (Elt F) (V m c main_v0)
def blk1 (c : Dev nD) : FVec F S4x5120 .f32 := (win0_1.blk t0_0).view.read (Elt F) (V m c main_v6)
def blk2 (c : Dev nD) : FVec F S1x5120 .f32 := (win0_2.blk t0_0).view.read (Elt F) (V m c main_v7)
def blk3 (c : Dev nD) : FVec F S4x5120 .f32 := (win0_3.blk t0_0).view.read (Elt F) (V m c main_v8)
def blk4 (c : Dev nD) : FVec F S5120x1 .f32 := (win0_4.blk t0_0).view.read (Elt F) (V m c main_v2)
def blk5 (c : Dev nD) : FVec F S5120x4 .f32 := (win0_5.blk t0_0).view.read (Elt F) (V m c main_v3)
def blk6 (c : Dev nD) : FVec F S5120x64 .f32 := (win0_6.blk t0_0).view.read (Elt F) (V m c main_v5)
/-- The result staged from the operands as fetched. -/
def outV (c : Dev nD) : FVec F S5120x74 .f32 :=
  out (blk0 m c) (blk1 m c) (blk2 m c) (blk3 m c) (blk4 m c) (blk5 m c) (blk6 m c)

def dats (_ : Fin 1) (c : Dev nD) : Dat τ (Elt F) Unit ℕ (UR sig nD τ) ℕ (cfg0 (F := F)) c where
  A w := V m c (Pipeline.arrRef spec0 w)
  after w t := match w with
    | ⟨0, _⟩ => blk0 m c
    | ⟨1, _⟩ => blk1 m c
    | ⟨2, _⟩ => blk2 m c
    | ⟨3, _⟩ => blk3 m c
    | ⟨4, _⟩ => blk4 m c
    | ⟨5, _⟩ => blk5 m c
    | ⟨6, _⟩ => blk6 m c
    | ⟨7, _⟩ => outV m c
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem before_0 (c : Dev nD) (d) : (dats m 0 c).before 0 t0_0 d = blk0 m c := by
  unfold Dat.before; rw [if_pos (fetch0_0 t0_0)]; rfl
theorem before_1 (c : Dev nD) (d) : (dats m 0 c).before 1 t0_0 d = blk1 m c := by
  unfold Dat.before; rw [if_pos (fetch0_1 t0_0)]; rfl
theorem before_2 (c : Dev nD) (d) : (dats m 0 c).before 2 t0_0 d = blk2 m c := by
  unfold Dat.before; rw [if_pos (fetch0_2 t0_0)]; rfl
theorem before_3 (c : Dev nD) (d) : (dats m 0 c).before 3 t0_0 d = blk3 m c := by
  unfold Dat.before; rw [if_pos (fetch0_3 t0_0)]; rfl
theorem before_4 (c : Dev nD) (d) : (dats m 0 c).before 4 t0_0 d = blk4 m c := by
  unfold Dat.before; rw [if_pos (fetch0_4 t0_0)]; rfl
theorem before_5 (c : Dev nD) (d) : (dats m 0 c).before 5 t0_0 d = blk5 m c := by
  unfold Dat.before; rw [if_pos (fetch0_5 t0_0)]; rfl
theorem before_6 (c : Dev nD) (d) : (dats m 0 c).before 6 t0_0 d = blk6 m c := by
  unfold Dat.before; rw [if_pos (fetch0_6 t0_0)]; rfl

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem after_0 (c : Dev nD) (t : Fin (cfg0 (F := F)).N) : (dats m 0 c).after 0 t = blk0 m c := rfl
theorem after_1 (c : Dev nD) (t : Fin (cfg0 (F := F)).N) : (dats m 0 c).after 1 t = blk1 m c := rfl
theorem after_2 (c : Dev nD) (t : Fin (cfg0 (F := F)).N) : (dats m 0 c).after 2 t = blk2 m c := rfl
theorem after_3 (c : Dev nD) (t : Fin (cfg0 (F := F)).N) : (dats m 0 c).after 3 t = blk3 m c := rfl
theorem after_4 (c : Dev nD) (t : Fin (cfg0 (F := F)).N) : (dats m 0 c).after 4 t = blk4 m c := rfl
theorem after_5 (c : Dev nD) (t : Fin (cfg0 (F := F)).N) : (dats m 0 c).after 5 t = blk5 m c := rfl
theorem after_6 (c : Dev nD) (t : Fin (cfg0 (F := F)).N) : (dats m 0 c).after 6 t = blk6 m c := rfl
theorem after_7 (c : Dev nD) (t : Fin (cfg0 (F := F)).N) : (dats m 0 c).after 7 t = outV m c := rfl

/-- A staging buffer held at its contents. -/
theorem own_0 (c : Dev nD) (X : FVec F S5120x4 .f32) : (owns (c : Thread nD τ) (st0_0 (F := F) t0_0) fullShare X : sProp 𝕄)
    = (((c : Thread nD τ).loc cc0_stg0_0) ↦{fullShare} (X : Buf (Elt F) ((c : Thread nD τ).loc cc0_stg0_0))) :=
  owns_whole (Val := Elt F) (c : Thread nD τ) cc0_stg0_0 fullShare (X : (cc0_stg0_0 : Ref sig .tc).ty.Contents (Elt F))
theorem own_1 (c : Dev nD) (X : FVec F S4x5120 .f32) : (owns (c : Thread nD τ) (st0_1 (F := F) t0_0) fullShare X : sProp 𝕄)
    = (((c : Thread nD τ).loc cc0_stg1_0) ↦{fullShare} (X : Buf (Elt F) ((c : Thread nD τ).loc cc0_stg1_0))) :=
  owns_whole (Val := Elt F) (c : Thread nD τ) cc0_stg1_0 fullShare (X : (cc0_stg1_0 : Ref sig .tc).ty.Contents (Elt F))
theorem own_2 (c : Dev nD) (X : FVec F S1x5120 .f32) : (owns (c : Thread nD τ) (st0_2 (F := F) t0_0) fullShare X : sProp 𝕄)
    = (((c : Thread nD τ).loc cc0_stg2_0) ↦{fullShare} (X : Buf (Elt F) ((c : Thread nD τ).loc cc0_stg2_0))) :=
  owns_whole (Val := Elt F) (c : Thread nD τ) cc0_stg2_0 fullShare (X : (cc0_stg2_0 : Ref sig .tc).ty.Contents (Elt F))
theorem own_3 (c : Dev nD) (X : FVec F S4x5120 .f32) : (owns (c : Thread nD τ) (st0_3 (F := F) t0_0) fullShare X : sProp 𝕄)
    = (((c : Thread nD τ).loc cc0_stg3_0) ↦{fullShare} (X : Buf (Elt F) ((c : Thread nD τ).loc cc0_stg3_0))) :=
  owns_whole (Val := Elt F) (c : Thread nD τ) cc0_stg3_0 fullShare (X : (cc0_stg3_0 : Ref sig .tc).ty.Contents (Elt F))
theorem own_4 (c : Dev nD) (X : FVec F S5120x1 .f32) : (owns (c : Thread nD τ) (st0_4 (F := F) t0_0) fullShare X : sProp 𝕄)
    = (((c : Thread nD τ).loc cc0_stg4_0) ↦{fullShare} (X : Buf (Elt F) ((c : Thread nD τ).loc cc0_stg4_0))) :=
  owns_whole (Val := Elt F) (c : Thread nD τ) cc0_stg4_0 fullShare (X : (cc0_stg4_0 : Ref sig .tc).ty.Contents (Elt F))
theorem own_5 (c : Dev nD) (X : FVec F S5120x4 .f32) : (owns (c : Thread nD τ) (st0_5 (F := F) t0_0) fullShare X : sProp 𝕄)
    = (((c : Thread nD τ).loc cc0_stg5_0) ↦{fullShare} (X : Buf (Elt F) ((c : Thread nD τ).loc cc0_stg5_0))) :=
  owns_whole (Val := Elt F) (c : Thread nD τ) cc0_stg5_0 fullShare (X : (cc0_stg5_0 : Ref sig .tc).ty.Contents (Elt F))
theorem own_6 (c : Dev nD) (X : FVec F S5120x64 .f32) : (owns (c : Thread nD τ) (st0_6 (F := F) t0_0) fullShare X : sProp 𝕄)
    = (((c : Thread nD τ).loc cc0_stg6_0) ↦{fullShare} (X : Buf (Elt F) ((c : Thread nD τ).loc cc0_stg6_0))) :=
  owns_whole (Val := Elt F) (c : Thread nD τ) cc0_stg6_0 fullShare (X : (cc0_stg6_0 : Ref sig .tc).ty.Contents (Elt F))
theorem own_7 (c : Dev nD) (X : FVec F S5120x74 .f32) : (owns (c : Thread nD τ) (st0_7 (F := F) t0_0) fullShare X : sProp 𝕄)
    = (((c : Thread nD τ).loc cc0_stg7_0) ↦{fullShare} (X : Buf (Elt F) ((c : Thread nD τ).loc cc0_stg7_0))) :=
  owns_whole (Val := Elt F) (c : Thread nD τ) cc0_stg7_0 fullShare (X : (cc0_stg7_0 : Ref sig .tc).ty.Contents (Elt F))

theorem own_7_any (c : Dev nD) : (iprop(∃ d, owns (c : Thread nD τ) (st0_7 (F := F) t0_0) fullShare ((dats m 0 c).before 7 t0_0 d)) : sProp 𝕄)
    = iprop(∃ d, (((c : Thread nD τ).loc cc0_stg7_0) ↦{fullShare} ((dats m 0 c).before 7 t0_0 d : Buf (Elt F) ((c : Thread nD τ).loc cc0_stg7_0)))) :=
  congrArg BI.BIBase.exists (funext fun d => own_7 c _)

theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  obtain rfl := fin_N0 t
  rw [show bodyAt0 (F := F) t0_0 = bodyProg from rfl]
  unfold bodyPre bodyPost
  rw [show (dats m 0 c).Φ t0_0.succ = (dats m 0 c).Φ t0_0.castSucc from rfl,
    show (dats m 0 c).owesAt () t0_0.succ = (dats m 0 c).owesAt () t0_0.castSucc from rfl,
    show (dats m 0 c).Φ t0_0.castSucc = Pipeline.ΦA spec0 c from rfl]
  simp only [before_0, before_1, before_2, before_3, before_4, before_5, before_6, after_0, after_1, after_2, after_3, after_4, after_5, after_6, after_7]
  unfold Pipeline.ΦA
  rw [scopedRest0_eq]
  rw [own_0, own_1, own_2, own_3, own_4, own_5, own_6, own_7, own_7_any]
  iintro ⟨⟨⟨⟨%s0, Hw⟩, ⟨%s1, Hk⟩, ⟨%s2, Hv⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (blk0 m c) (blk1 m c) (blk2 m c) (blk3 m c) (blk4 m c) (blk5 m c) (blk6 m c) _ s0 s1 s2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hw]; · iexact Hw
  isplitl [Hk]; · iexact Hk
  isplitl [Hv]; · iexact Hv
  iintro ⟨H0, H1, H2, H3, H4, H5, H6, H7, Hw, Hk, Hv⟩
  isplitl [Hw Hk Hv Hg]
  · isplitl [Hw Hk Hv]
    · isplitl [Hw]; · iexact Hw
      isplitl [Hk]; · iexact Hk
      iexact Hv
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin (cfg0 (F := F)).N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ### The run -/

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

end Cert.Proof.PI

end
-- ==== Proof.PI.Final.lean ====
/-
  The idealized kernel: the run's final contents — the arguments as given, the result the first 5000 rows of what the
  kernel stores, from the padded and transposed arguments.
-/
module

public import proofs.«01_k».proof.Proof.PI.Launch
public import Idealize.ShloMosaic.Lib.StableHlo.RunRead
public import Idealize.ShloMosaic.Lib.StableHlo.RunLoop

@[expose] public section

noncomputable section

namespace Cert.Proof.PI

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ### The padded and transposed arguments -/

/-- The value the host pads with. -/
def zero : FVec F S_ .f32 := sitofp .f32 (constantI S_ 32 0#32)
/-- The arguments padded to 5120 rows: boxes and uncertainties, -/
def pad4 (a : FVec F S5000x4 .f32) : FVec F S5120x4 .f32 := pad S5120x4 ![0, 0] ![120, 0] ![0, 0] a zero pads_S5000x4_S5120x4_01200_000 h_S_
/-- scores as a column, -/
def padS (a : FVec F S5000 .f32) : FVec F S5120x1 .f32 :=
  broadcastInDim S5120x1 ![0] bcast_S5120_S5120x1_0 (pad S5120 ![0] ![120] ![0] a zero pads_S5000_S5120_01200 h_S_)
/-- contours flattened. -/
def padC (a : FVec F S5000x32x2 .f32) : FVec F S5120x64 .f32 :=
  pad S5120x64 ![0, 0] ![120, 0] ![0, 0] (shapeCast S5000x64 a shapeCasts_S5000x32x2_S5000x64) zero pads_S5000x64_S5120x64_01200_000 h_S_

/-- The program's result from its arguments. -/
def outOf (a0 : FVec F S5000x32x2 .f32) (a1 : FVec F S5000 .f32) (a2 a3 : FVec F S5000x4 .f32) : FVec F S5000x74 .f32 :=
  extractStridedSlice S5000x74 ![0, 0] (out (pad4 a2) (transpose S4x5120 [1, 0] (pad4 a2) transposes_S5120x4_S4x5120_1_0)
    (transpose S1x5120 [1, 0] (padS a1) transposes_S5120x1_S1x5120_1_0) (transpose S4x5120 [1, 0] (pad4 a3) transposes_S5120x4_S4x5120_1_0)
    (padS a1) (pad4 a3) (padC a0)) slices_S5120x74_S5000x74_0_0

theorem V_main_arg0 (c : Dev nD) : V m c main_arg0 = m ((c : Thread nD τ).loc main_arg0) := by
  simp only [V, V0, hostOps0, hostOps0_1, hostOps0_2, hostOps0_3, hostOps0_4, hostOps0_5, hostOps0_6, hostOps0_7, hostOps0_8, List.flatten, List.append, List.cons_append, List.nil_append]
  after_results_entrywise []
theorem V_main_arg1 (c : Dev nD) : V m c main_arg1 = m ((c : Thread nD τ).loc main_arg1) := by
  simp only [V, V0, hostOps0, hostOps0_1, hostOps0_2, hostOps0_3, hostOps0_4, hostOps0_5, hostOps0_6, hostOps0_7, hostOps0_8, List.flatten, List.append, List.cons_append, List.nil_append]
  after_results_entrywise []
theorem V_main_arg2 (c : Dev nD) : V m c main_arg2 = m ((c : Thread nD τ).loc main_arg2) := by
  simp only [V, V0, hostOps0, hostOps0_1, hostOps0_2, hostOps0_3, hostOps0_4, hostOps0_5, hostOps0_6, hostOps0_7, hostOps0_8, List.flatten, List.append, List.cons_append, List.nil_append]
  after_results_entrywise []
theorem V_main_arg3 (c : Dev nD) : V m c main_arg3 = m ((c : Thread nD τ).loc main_arg3) := by
  simp only [V, V0, hostOps0, hostOps0_1, hostOps0_2, hostOps0_3, hostOps0_4, hostOps0_5, hostOps0_6, hostOps0_7, hostOps0_8, List.flatten, List.append, List.cons_append, List.nil_append]
  after_results_entrywise []
theorem V_main_v0 (c : Dev nD) : V m c main_v0 = pad4 (m ((c : Thread nD τ).loc main_arg2)) := by
  unfold pad4 zero
  simp only [V, V0, hostOps0, hostOps0_1, hostOps0_2, hostOps0_3, hostOps0_4, hostOps0_5, hostOps0_6, hostOps0_7, hostOps0_8, List.flatten, List.append, List.cons_append, List.nil_append]
  after_results_entrywise []
theorem V_main_v2 (c : Dev nD) : V m c main_v2 = padS (m ((c : Thread nD τ).loc main_arg1)) := by
  unfold padS zero
  simp only [V, V0, hostOps0, hostOps0_1, hostOps0_2, hostOps0_3, hostOps0_4, hostOps0_5, hostOps0_6, hostOps0_7, hostOps0_8, List.flatten, List.append, List.cons_append, List.nil_append]
  after_results_entrywise []
theorem V_main_v3 (c : Dev nD) : V m c main_v3 = pad4 (m ((c : Thread nD τ).loc main_arg3)) := by
  unfold pad4 zero
  simp only [V, V0, hostOps0, hostOps0_1, hostOps0_2, hostOps0_3, hostOps0_4, hostOps0_5, hostOps0_6, hostOps0_7, hostOps0_8, List.flatten, List.append, List.cons_append, List.nil_append]
  after_results_entrywise []
theorem V_main_v5 (c : Dev nD) : V m c main_v5 = padC (m ((c : Thread nD τ).loc main_arg0)) := by
  unfold padC zero
  simp only [V, V0, hostOps0, hostOps0_1, hostOps0_2, hostOps0_3, hostOps0_4, hostOps0_5, hostOps0_6, hostOps0_7, hostOps0_8, List.flatten, List.append, List.cons_append, List.nil_append]
  after_results_entrywise []
theorem V_main_v6 (c : Dev nD) : V m c main_v6 = transpose S4x5120 [1, 0] (pad4 (m ((c : Thread nD τ).loc main_arg2))) transposes_S5120x4_S4x5120_1_0 := by
  unfold pad4 zero
  simp only [V, V0, hostOps0, hostOps0_1, hostOps0_2, hostOps0_3, hostOps0_4, hostOps0_5, hostOps0_6, hostOps0_7, hostOps0_8, List.flatten, List.append, List.cons_append, List.nil_append]
  after_results_entrywise []
theorem V_main_v7 (c : Dev nD) : V m c main_v7 = transpose S1x5120 [1, 0] (padS (m ((c : Thread nD τ).loc main_arg1))) transposes_S5120x1_S1x5120_1_0 := by
  unfold padS zero
  simp only [V, V0, hostOps0, hostOps0_1, hostOps0_2, hostOps0_3, hostOps0_4, hostOps0_5, hostOps0_6, hostOps0_7, hostOps0_8, List.flatten, List.append, List.cons_append, List.nil_append]
  after_results_entrywise []
theorem V_main_v8 (c : Dev nD) : V m c main_v8 = transpose S4x5120 [1, 0] (pad4 (m ((c : Thread nD τ).loc main_arg3))) transposes_S5120x4_S4x5120_1_0 := by
  unfold pad4 zero
  simp only [V, V0, hostOps0, hostOps0_1, hostOps0_2, hostOps0_3, hostOps0_4, hostOps0_5, hostOps0_6, hostOps0_7, hostOps0_8, List.flatten, List.append, List.cons_append, List.nil_append]
  after_results_entrywise []

/-! ### The operands as fetched are the whole arrays -/

theorem blk0_eq (c : Dev nD) : blk0 m c = V m c main_v0 := by
  unfold blk0
  funext x
  refine Eq.trans (View.read_apply ..) ?_
  exact congrArg (V m c main_v0) (funext fun a => Fin.ext (by fin_cases a <;> exact (Nat.zero_add _).trans (Nat.one_mul _)))
theorem blk1_eq (c : Dev nD) : blk1 m c = V m c main_v6 := by
  unfold blk1
  funext x
  refine Eq.trans (View.read_apply ..) ?_
  exact congrArg (V m c main_v6) (funext fun a => Fin.ext (by fin_cases a <;> exact (Nat.zero_add _).trans (Nat.one_mul _)))
theorem blk2_eq (c : Dev nD) : blk2 m c = V m c main_v7 := by
  unfold blk2
  funext x
  refine Eq.trans (View.read_apply ..) ?_
  exact congrArg (V m c main_v7) (funext fun a => Fin.ext (by fin_cases a <;> exact (Nat.zero_add _).trans (Nat.one_mul _)))
theorem blk3_eq (c : Dev nD) : blk3 m c = V m c main_v8 := by
  unfold blk3
  funext x
  refine Eq.trans (View.read_apply ..) ?_
  exact congrArg (V m c main_v8) (funext fun a => Fin.ext (by fin_cases a <;> exact (Nat.zero_add _).trans (Nat.one_mul _)))
theorem blk4_eq (c : Dev nD) : blk4 m c = V m c main_v2 := by
  unfold blk4
  funext x
  refine Eq.trans (View.read_apply ..) ?_
  exact congrArg (V m c main_v2) (funext fun a => Fin.ext (by fin_cases a <;> exact (Nat.zero_add _).trans (Nat.one_mul _)))
theorem blk5_eq (c : Dev nD) : blk5 m c = V m c main_v3 := by
  unfold blk5
  funext x
  refine Eq.trans (View.read_apply ..) ?_
  exact congrArg (V m c main_v3) (funext fun a => Fin.ext (by fin_cases a <;> exact (Nat.zero_add _).trans (Nat.one_mul _)))
theorem blk6_eq (c : Dev nD) : blk6 m c = V m c main_v5 := by
  unfold blk6
  funext x
  refine Eq.trans (View.read_apply ..) ?_
  exact congrArg (V m c main_v5) (funext fun a => Fin.ext (by fin_cases a <;> exact (Nat.zero_add _).trans (Nat.one_mul _)))

theorem outV_eq (c : Dev nD) : outV m c = out (pad4 (m ((c : Thread nD τ).loc main_arg2)))
    (transpose S4x5120 [1, 0] (pad4 (m ((c : Thread nD τ).loc main_arg2))) transposes_S5120x4_S4x5120_1_0)
    (transpose S1x5120 [1, 0] (padS (m ((c : Thread nD τ).loc main_arg1))) transposes_S5120x1_S1x5120_1_0)
    (transpose S4x5120 [1, 0] (pad4 (m ((c : Thread nD τ).loc main_arg3))) transposes_S5120x4_S4x5120_1_0)
    (padS (m ((c : Thread nD τ).loc main_arg1))) (pad4 (m ((c : Thread nD τ).loc main_arg3))) (padC (m ((c : Thread nD τ).loc main_arg0))) := by
  unfold outV
  rw [blk0_eq, blk1_eq, blk2_eq, blk3_eq, blk4_eq, blk5_eq, blk6_eq, V_main_v0, V_main_v6, V_main_v7, V_main_v8, V_main_v2, V_main_v3, V_main_v5]

/-! ### The contents at the end -/

/-- The result array as the pipeline leaves it. -/
theorem arrAt_out (c : Dev nD) : (dats m 0 c).arrAt 7 (cfg0 (F := F)).N = outV m c := by
  rw [show (cfg0 (F := F)).N = t0_0.val + 1 from rfl, (dats m 0 c).arrAt_succ 7 t0_0, if_pos (flush0_7 t0_0)]
  funext i
  have e : (win0_7.blk t0_0).view.emb i = i := funext fun a => Fin.ext (by fin_cases a <;> exact (Nat.zero_add _).trans (Nat.one_mul _))
  have h := View.write_emb_of_mem (v := (win0_7.blk t0_0).view) (Val := Elt F) ((dats m 0 c).arrAt 7 t0_0.val) (outV m c) (M := Finset.univ) (x := i) (Finset.mem_univ _)
  rw [e] at h
  exact h

theorem tail_arg (c : Dev nD) (a : Ref sig .tc) (ha : a ≠ main_v10) (hw : ∀ w, Pipeline.arrRef spec0 w ≠ a) :
    Pipeline.afterTail₀ cfgs (dats m) 0 (V0 m) [hostOps1] c a = V m c a := by
  unfold Pipeline.afterTail₀
  rw [StableHlo.after_of_forall_not_mem (b := Proc.devRef .tc a) _ _ (by
    intro op hop
    simp only [List.flatten, List.append, List.mem_cons, List.mem_nil_iff, or_false] at hop
    rcases hop with rfl
    simp only [StableHlo.unary_writes, Finset.mem_singleton]
    exact StableHlo.devRef_ne_of_ne ha), Pipeline.withArrays_of_ne _ c (V0 m c) _ a (by exact hw)]

theorem tail_out (c : Dev nD) :
    Pipeline.afterTail₀ cfgs (dats m) 0 (V0 m) [hostOps1] c main_v10
      = extractStridedSlice S5000x74 ![0, 0] (outV m c) slices_S5120x74_S5000x74_0_0 := by
  unfold Pipeline.afterTail₀
  show StableHlo.after hostOps1 _ _ = _
  simp only [hostOps1]
  rw [← arrAt_out]
  exact congrArg (fun x => extractStridedSlice S5000x74 ![0, 0] x slices_S5120x74_S5000x74_0_0)
    (Pipeline.withArrays_arr spec0 (launch0 (F := F)).win.arr_inj c (V0 m c) (fun w => (dats m 0 c).arrAt w (cfg0 (F := F)).N) 7)

/-- The program ends with its arguments as given, every counter at zero, and its result at `outOf`. -/
theorem run_out : θ_run defs (onTc (τ := τ) (main (F := F))) ⟨m, fun _ => 0, ρ⟩ (fun r => (∀ c : Dev nD,
      r.2.mem ((c.tc : Thread nD τ).loc main_v10) = outOf (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_v10 (Pipeline.mem_restRefs_of main_v10 (by decide) (by exact (by decide : ∀ w, Pipeline.arrRef spec0 w ≠ main_v10)))).trans ((tail_out m c).trans (by rw [outV_eq]; rfl)),
     ((h.1 c).2 main_arg0 (Pipeline.mem_restRefs_of main_arg0 (by decide) (by exact (by decide : ∀ w, Pipeline.arrRef spec0 w ≠ main_arg0)))).trans ((tail_arg m c main_arg0 (by decide) (by decide)).trans (V_main_arg0 m c)),
     ((h.1 c).2 main_arg1 (Pipeline.mem_restRefs_of main_arg1 (by decide) (by exact (by decide : ∀ w, Pipeline.arrRef spec0 w ≠ main_arg1)))).trans ((tail_arg m c main_arg1 (by decide) (by decide)).trans (V_main_arg1 m c)),
     ((h.1 c).2 main_arg2 (Pipeline.mem_restRefs_of main_arg2 (by decide) (by exact (by decide : ∀ w, Pipeline.arrRef spec0 w ≠ main_arg2)))).trans ((tail_arg m c main_arg2 (by decide) (by decide)).trans (V_main_arg2 m c)),
     ((h.1 c).2 main_arg3 (Pipeline.mem_restRefs_of main_arg3 (by decide) (by exact (by decide : ∀ w, Pipeline.arrRef spec0 w ≠ main_arg3)))).trans ((tail_arg m c main_arg3 (by decide) (by decide)).trans (V_main_arg3 m c))⟩, h.2⟩)
    (run_main m ρ)

end Cert.Proof.PI

end
-- ==== Proof.RI.Frame.lean ====
/-
  The reference: its frame, from the run of its operations.
-/
module

public import proofs.«01_k».proof.Proof.Gen.ReferenceIdeal.Run
public import Idealize.ShloMosaic.Lib.Quiescent

@[expose] public section

noncomputable section

namespace Cert.Proof.RI

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- The buffers that the operations after the loop write. -/
abbrev postW : List (Ref sig .tc) := [main_v65, main_c_10, main_v66, main_c_11, main_v67, main_v68, main_c_12, main_v69, main_v70, main_v71, main_v72, main_v73, main_v74, main_v75, main_v76, main_v77, main_v78, main_v79, main_v80, main_v81]

/-- Each operation after the loop writes one of them. -/
theorem post_writes : (hostOps0_5 : List (HloOp τ sig (Elt F))).Forall
    fun op => op.writes ⊆ (postW.map (Proc.devRef (τ := τ) .tc)).toFinset :=
  forall_writes_sub_of_map rfl

/-- Every buffer that some operation of the reference writes. -/
abbrev written : List (Ref sig .tc) :=
  hostOps0_W ++ hostOps0_1_W ++ hostOps0_2_W ++ hostOps0_3_W ++ hostOps0_4_W ++ while0Ops0_W ++ condOps_W ++ postW

section Kept

variable {r : Ref sig .tc}

/-- A buffer that no operation writes holds at the loop's entry what it held at the launch. -/
theorem entry_kept (h0 : r ∉ hostOps0_W) (h1 : r ∉ hostOps0_1_W) (h2 : r ∉ hostOps0_2_W) (h3 : r ∉ hostOps0_3_W)
    (h4 : r ∉ hostOps0_4_W) (c : Dev nD) :
    entryContents preI m c (Proc.devRef .tc r) = launchContents m c (Proc.devRef .tc r) := by
  show after hostOps0_4 (after hostOps0_3 (after hostOps0_2 (after hostOps0_1 (after hostOps0 _)))) _ = _
  rw [after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- A buffer that the loop does not write holds after any number of trips what it held at the loop's entry. -/
theorem trips_kept (hc : r ∉ condOps_W) (hb : r ∉ while0Ops0_W) (c : Dev nD) : ∀ k,
    atK m k c (Proc.devRef .tc r) = entryContents preI m c (Proc.devRef .tc r)
  | 0 => rfl
  | k + 1 => by
    show after while0Ops0 (after condOps (atK m k c)) _ = _
    rw [after_of_writes_sub _ _ while0Ops0_writes hb, after_of_writes_sub _ _ condOps_writes hc, trips_kept hc hb c k]

/-- A buffer that no operation of the reference writes holds at the end what it held at the launch. -/
theorem final_kept (h : r ∉ written) (c : Dev nD) :
    finalContents condOps preI bodyI postI 5000 m c (Proc.devRef .tc r) = m ((c.tc : Thread nD τ).loc r) := by
  simp only [written, List.mem_append, not_or] at h
  obtain ⟨⟨⟨⟨⟨⟨⟨h0, h1⟩, h2⟩, h3⟩, h4⟩, hb⟩, hc⟩, h5⟩ := h
  show after hostOps0_5 (after condOps (atK m 5000 c)) _ = _
  rw [after_of_writes_sub _ _ post_writes h5, after_of_writes_sub _ _ condOps_writes hc, trips_kept m hc hb c,
    entry_kept m h0 h1 h2 h3 h4 c]

end Kept

/-- The reference terminates without fault; its result is the last buffer of the chain, its arguments are unchanged and
    every semaphore counter is zero. -/
theorem run_ref : θ_run defs (onTc (τ := τ) (main (F := F))) ⟨m, fun _ => 0, ρ⟩ (fun r =>
    (∀ c : Dev nD, r.2.mem ((c.tc : Thread nD τ).loc main_v81)
        = finalContents condOps preI bodyI postI 5000 m c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h =>
    ⟨fun c => ⟨h c main_v81 rfl, (h c main_arg0 rfl).trans (final_kept m (by decide +kernel) c),
      (h c main_arg1 rfl).trans (final_kept m (by decide +kernel) c),
      (h c main_arg2 rfl).trans (final_kept m (by decide +kernel) c),
      (h c main_arg3 rfl).trans (final_kept m (by decide +kernel) c)⟩,
     sem_eq_zero_of_no_sems rfl _⟩) (run_fold m ρ)

end Cert.Proof.RI

end
-- ==== Proof.Val.Greedy.lean ====
/-
  Greedy suppression, without numbers: elements are ranked by a strict order `pri`, and an element is kept when no kept
  element ranked before it overlaps it. Such a set of kept elements is unique, and sweeping the rule over all elements
  at once, from "all kept", reaches it after as many sweeps as there are elements.
-/
module

public import Mathlib.Data.Fintype.Card
public import Mathlib.Data.Fintype.Basic
public import Mathlib.Logic.Function.Iterate
public import Mathlib.Order.Basic

@[expose] public section

namespace Cert.Proof.Val

/-- One sweep: an element is kept when no element that was kept, ranks before it and overlaps it is there. -/
def sweep {α : Type} (pri ov : α → α → Prop) (K : α → Prop) : α → Prop :=
  fun j => ∀ i, pri i j → ov i j → ¬ K i

section Greedy

variable {α : Type} [Fintype α] {pri ov : α → α → Prop}

/-- How many elements rank before `j`. -/
noncomputable def rank (pri : α → α → Prop) (j : α) : Nat :=
  by classical exact (Finset.univ.filter fun i => pri i j).card

theorem rank_lt (hirr : ∀ i, ¬ pri i i) (htr : ∀ i j k, pri i j → pri j k → pri i k) {i j : α} (h : pri i j) :
    rank pri i < rank pri j := by
  classical
  unfold rank
  refine Finset.card_lt_card (Finset.ssubset_iff_of_subset ?_ |>.mpr ⟨i, ?_, ?_⟩)
  · intro k hk
    simp only [Finset.mem_filter, Finset.mem_univ, true_and] at hk ⊢
    exact htr k i j hk h
  · simpa using h
  · simpa using hirr i

theorem rank_lt_card (hirr : ∀ i, ¬ pri i i) (j : α) : rank pri j < Fintype.card α := by
  classical
  unfold rank
  refine Finset.card_lt_univ_of_notMem (x := j) ?_
  simpa using hirr j

/-- Two sets of kept elements that obey the rule agree. -/
theorem sweep_unique (hirr : ∀ i, ¬ pri i i) (htr : ∀ i j k, pri i j → pri j k → pri i k) {K L : α → Prop}
    (hK : ∀ j, K j ↔ sweep pri ov K j) (hL : ∀ j, L j ↔ sweep pri ov L j) : ∀ j, K j ↔ L j := by
  have key : ∀ n, ∀ j, rank pri j < n → (K j ↔ L j) := by
    intro n
    induction n with
    | zero => intro j h; exact absurd h (Nat.not_lt_zero _)
    | succ n ih =>
      intro j hj
      rw [hK j, hL j]
      refine forall_congr' fun i => imp_congr_right fun hp => imp_congr_right fun _ => not_congr (ih i ?_)
      have := rank_lt hirr htr hp
      omega
  exact fun j => key _ j (Nat.lt_succ_self _)

/-- After more than `rank j` sweeps another one does not change `j`. -/
theorem sweep_settled (hirr : ∀ i, ¬ pri i i) (htr : ∀ i j k, pri i j → pri j k → pri i k) (K : α → Prop) :
    ∀ n j, rank pri j < n → ((sweep pri ov)^[n + 1] K j ↔ (sweep pri ov)^[n] K j) := by
  intro n
  induction n with
  | zero => intro j h; exact absurd h (Nat.not_lt_zero _)
  | succ n ih =>
    intro j hj
    rw [Function.iterate_succ_apply' _ (n + 1), Function.iterate_succ_apply' _ n]
    refine forall_congr' fun i => imp_congr_right fun hp => imp_congr_right fun _ => not_congr ?_
    have := rank_lt hirr htr hp
    have h' := ih i (by omega)
    rw [Function.iterate_succ_apply' _ n] at h'
    exact h'

/-- After as many sweeps as there are elements, nothing changes any more. -/
theorem sweep_done (hirr : ∀ i, ¬ pri i i) (htr : ∀ i j k, pri i j → pri j k → pri i k) (K : α → Prop) :
    sweep pri ov ((sweep pri ov)^[Fintype.card α] K) = (sweep pri ov)^[Fintype.card α] K := by
  funext j
  rw [← Function.iterate_succ_apply' (sweep pri ov)]
  exact propext (sweep_settled hirr htr K _ j (rank_lt_card hirr j))

end Greedy

end Cert.Proof.Val
-- ==== Proof.Val.Boxes.lean ====
/-
  Boxes over the extended reals: a box is four numbers x1, y1, x2, y2. Two boxes overlap when their intersection over
  their union is above a half. A weighted box ranks before another of smaller weight, and before one of the same weight
  with a greater index.
-/
module

public import proofs.«01_k».proof.Proof.Val.Greedy
public import Idealize.ShloMosaic.Lib.Pointwise
public import Idealize.ShloMosaic.Lib.WordCmp

@[expose] public section

noncomputable section

namespace Cert.Proof.Val

open Idealize.ShloMosaic

/-- The area of a box. -/
def areaOf (p : Fin 4 → EReal) : EReal := (p 2 - p 0) * (p 3 - p 1)

/-- The area of the intersection of two boxes. -/
def interOf (p q : Fin 4 → EReal) : EReal :=
  max (min (p 2) (q 2) - max (p 0) (q 0)) 0 * max (min (p 3) (q 3) - max (p 1) (q 1)) 0

/-- The least divisor allowed. -/
def epsOf : EReal := Ideal.ofBits .f32 814313567#32

/-- Intersection over union. -/
def iouOf (p q : Fin 4 → EReal) : EReal :=
  Ideal.div (interOf p q) (max (areaOf p + areaOf q - interOf p q) epsOf)

/-- Two boxes overlap. -/
def ovOf (p q : Fin 4 → EReal) : Prop := Ideal.ofBits .f32 1056964608#32 < iouOf p q

theorem interOf_comm (p q : Fin 4 → EReal) : interOf p q = interOf q p := by
  simp only [interOf, min_comm (p 2), min_comm (p 3), max_comm (p 0), max_comm (p 1)]

theorem iouOf_comm (p q : Fin 4 → EReal) : iouOf p q = iouOf q p := by
  simp only [iouOf, interOf_comm p q, add_comm (areaOf p)]

theorem ovOf_comm {p q : Fin 4 → EReal} (h : ovOf p q) : ovOf q p := by
  rw [ovOf, iouOf_comm]; exact h

theorem half_eq : Ideal.ofBits .f32 1056964608#32 = (((1 / 2 : ℝ)) : EReal) := by
  simp [Ideal.ofBits, Ideal.ieee]
  rw [← EReal.coe_mul, EReal.coe_eq_coe_iff]; norm_num

theorem quarter_eq : Ideal.ofBits .f32 1048576000#32 = (((1 / 4 : ℝ)) : EReal) := by
  simp [Ideal.ofBits, Ideal.ieee]
  rw [← EReal.coe_mul, EReal.coe_eq_coe_iff]; norm_num

theorem four_eq : Ideal.ofBits .f32 1082130432#32 = ((4 : ℝ) : EReal) := by
  simp [Ideal.ofBits, Ideal.ieee]
  rw [← EReal.coe_mul, EReal.coe_eq_coe_iff]; norm_num

theorem eps_pos : 0 < epsOf := by
  unfold epsOf
  simp [Ideal.ofBits, Ideal.ieee]
  rw [← EReal.coe_mul, EReal.coe_pos]; norm_num

theorem negInf_eq : Ideal.ofBits .f32 4286578688#32 = (⊥ : EReal) := by
  simp [Ideal.ofBits, Ideal.ieee]

/-- A box at the origin of no size overlaps none. -/
theorem not_ovOf_zero (q : Fin 4 → EReal) : ¬ ovOf (fun _ => 0) q := by
  have h0 : interOf (fun _ => 0) q = 0 := by
    have : max (min (0 : EReal) (q 2) - max 0 (q 0)) 0 = 0 := by
      refine max_eq_right ?_
      rw [EReal.sub_nonpos]
      · exact le_trans (min_le_left _ _) (le_max_left _ _)
    simp only [interOf, this, zero_mul]
  have hz : iouOf (fun _ => 0) q = 0 := by
    rw [iouOf, h0]
    have hm : max (areaOf (fun _ => 0) + areaOf q - 0) epsOf ≠ 0 := (lt_of_lt_of_le eps_pos (le_max_right _ _)).ne'
    rw [Ideal.div, if_neg hm, zero_mul]
  rw [ovOf, hz, half_eq, not_lt]
  exact EReal.coe_nonneg.mpr (by norm_num)

/-- The order of weighted boxes. -/
def priOf {n : Nat} (w : Fin n → EReal) (i j : Fin n) : Prop := w j < w i ∨ (w i = w j ∧ i < j)

theorem priOf_irrefl {n : Nat} (w : Fin n → EReal) (i : Fin n) : ¬ priOf w i i := by
  rintro (h | ⟨_, h⟩) <;> exact lt_irrefl _ h

theorem priOf_trans {n : Nat} (w : Fin n → EReal) (i j k : Fin n) (h : priOf w i j) (h' : priOf w j k) : priOf w i k := by
  rcases h with h | ⟨e, h⟩ <;> rcases h' with h' | ⟨e', h'⟩
  · exact Or.inl (h'.trans h)
  · exact Or.inl (e' ▸ h)
  · exact Or.inl (e ▸ h')
  · exact Or.inr ⟨e.trans e', h.trans h'⟩

/-- Of two boxes one ranks before the other. -/
theorem not_priOf {n : Nat} (w : Fin n → EReal) {i j : Fin n} : (¬ priOf w i j ∧ i ≠ j) ↔ priOf w j i := by
  constructor
  · rintro ⟨h, hne⟩
    rcases lt_trichotomy (w i) (w j) with hl | he | hg
    · exact Or.inl hl
    · refine Or.inr ⟨he.symm, ?_⟩
      rcases lt_or_gt_of_ne hne with h1 | h1
      · exact absurd (Or.inr ⟨he, h1⟩) h
      · exact h1
    · exact absurd (Or.inl hg) h
  · intro h
    refine ⟨fun h' => priOf_irrefl w i (priOf_trans w _ _ _ h' h), ?_⟩
    rintro rfl
    exact priOf_irrefl w _ h

/-- The weight of a box: its score times one minus the logistic of its mean uncertainty. -/
def weightOf (s : EReal) (u : Fin 4 → EReal) : EReal :=
  s * (1 - Ideal.logistic ((u 0 + u 1 + u 2 + u 3) * Ideal.ofBits .f32 1048576000#32))

/-- A row of the result before the kept flag is multiplied in: the box, the score, the uncertainties, the weight, the
    contour. -/
def rowSpec (b : Fin 4 → EReal) (s : EReal) (u : Fin 4 → EReal) (w : EReal) (ct : Fin 64 → EReal) (l : Fin 74) : EReal :=
  if h : l.val < 4 then b ⟨l.val, h⟩
  else if h : l.val - 4 < 1 then s
  else if h : l.val - 4 - 1 < 4 then u ⟨l.val - 4 - 1, h⟩
  else if h : l.val - 4 - 1 - 4 < 1 then w
  else ct ⟨l.val - 4 - 1 - 4 - 1, by omega⟩

/-! ### Flags -/

open Classical in
/-- One where a proposition holds, zero where it does not. -/
def flag (p : Prop) : EReal := if p then 1 else 0

theorem flag_nonneg (p : Prop) : 0 ≤ flag p := by
  unfold flag; split <;> simp
theorem flag_eq_zero {p : Prop} : flag p = 0 ↔ ¬ p := by
  unfold flag; split <;> simp [*]
theorem flag_true {p : Prop} (h : p) : flag p = 1 := by rw [flag, if_pos h]
theorem flag_false {p : Prop} (h : ¬ p) : flag p = 0 := by rw [flag, if_neg h]
theorem flag_congr {p q : Prop} (h : p ↔ q) : flag p = flag q := by rw [propext h]
theorem flag_inj {p q : Prop} : flag p = flag q ↔ (p ↔ q) := by
  by_cases hp : p <;> by_cases hq : q <;> simp [flag, hp, hq]

/-- A sum of flags is zero when no flag is set. -/
theorem sum_flag {ι : Type} [Fintype ι] (p : ι → Prop) : (∑ x, flag (p x)) = 0 ↔ ∀ x, ¬ p x := by
  rw [Finset.sum_eq_zero_iff_of_nonneg fun _ _ => flag_nonneg _]
  simp only [Finset.mem_univ, true_imp_iff, flag_eq_zero]

theorem sum_flag_nonneg {ι : Type} [Fintype ι] (p : ι → Prop) : 0 ≤ ∑ x, flag (p x) :=
  Finset.sum_nonneg fun _ _ => flag_nonneg _

theorem add_zero_iff {a b : EReal} (ha : 0 ≤ a) (hb : 0 ≤ b) : a + b = 0 ↔ a = 0 ∧ b = 0 :=
  add_eq_zero_iff_of_nonneg ha hb

/-! ### Words of one bit -/

theorem andi_one (a b : BitVec 1) : IntOp.andi a b = 1#1 ↔ (a = 1#1 ∧ b = 1#1) := by revert a b; decide
theorem ori_one (a b : BitVec 1) : IntOp.ori a b = 1#1 ↔ (a = 1#1 ∨ b = 1#1) := by revert a b; decide
theorem xori_one (a : BitVec 1) : IntOp.xori a 1#1 = 1#1 ↔ ¬ a = 1#1 := by revert a; decide

/-- Choosing a flag or zero. -/
theorem select_flag {c : BitVec 1} {p q : Prop} (h : c = 1#1 ↔ p) : Scalar.select c (flag q) (0 : EReal) = flag (p ∧ q) := by
  unfold Scalar.select
  by_cases hp : p
  · rw [if_pos (show c = 1 from h.mpr hp)]; exact flag_congr (by simp [hp])
  · rw [if_neg (show ¬ c = 1 from fun e => hp (h.mp e)), flag_false (fun e => hp e.1)]

/-- A truth word made a number. -/
theorem sitofp_flag (p : Prop) [Decidable p] :
    (FloatOps.sitofp .f32 (BitVec.setWidth 32 (BitVec.ofBool (decide p))) : Ideal .f32) = flag p := by
  by_cases h : p
  · rw [decide_eq_true h, flag_true h]
    show (((BitVec.setWidth 32 (BitVec.ofBool true)).toInt : ℝ) : EReal) = 1
    have : (BitVec.setWidth 32 (BitVec.ofBool true)).toInt = 1 := by decide
    rw [this]; simp
  · rw [decide_eq_false h, flag_false h]
    show (((BitVec.setWidth 32 (BitVec.ofBool false)).toInt : ℝ) : EReal) = 0
    have : (BitVec.setWidth 32 (BitVec.ofBool false)).toInt = 0 := by decide
    rw [this]; simp

end Cert.Proof.Val

end
-- ==== Proof.Val.Kernel.lean ====
/-
  The idealized kernel's sweeps, over the extended reals, read at their entries: the flags after a sweep are those of
  the rule of greedy suppression applied once, and the flags the loop ends with obey the rule.
-/
module

public import proofs.«01_k».proof.Proof.PI.Common
public import proofs.«01_k».proof.Proof.Val.Boxes
public import Idealize.ShloMosaic.Lib.WordArith.Masks

@[expose] public section

set_option maxRecDepth 4096

noncomputable section

namespace Cert.Proof.Val

open Cert.KernelIdeal Cert.KernelIdeal.Gen Cert.Proof.PI
open Idealize.ShloMosaic

/-- Row `r` of tile `t`. -/
def rowOf (t : Fin k0_t1_loop.trips) (r : Fin 128) : Fin 5120 :=
  ⟨128 * t.val + r.val, by have : t.val < 40 := lt_of_lt_of_eq t.isLt trips_eq; omega⟩

theorem rowOf_val (t : Fin k0_t1_loop.trips) (r : Fin 128) : (rowOf t r).val = 128 * t.val + r.val := rfl

theorem tile4_at (f : FVec Ideal S5120x4 .f32) (t : Fin k0_t1_loop.trips) (r : Fin 128) (c : Fin 4) :
    tile4 f t (ix2 r c) = f (ix2 (rowOf t r) c) := by
  unfold tile4
  refine congrArg f (funext fun a => Fin.ext ?_)
  fin_cases a
  · show k0_off1 t 0 + 1 * r.val = 128 * t.val + r.val
    rw [k0_off1_eq]; simp
  · show k0_off1 t 1 + 1 * c.val = c.val
    rw [k0_off1_eq]; simp

theorem tile1_at (f : FVec Ideal S5120x1 .f32) (t : Fin k0_t1_loop.trips) (r : Fin 128) :
    tile1 f t (ix2 r 0) = f (ix2 (rowOf t r) 0) := by
  unfold tile1
  refine congrArg f (funext fun a => Fin.ext ?_)
  fin_cases a
  · show k0_off2 t 0 + 1 * r.val = 128 * t.val + r.val
    rw [k0_off2_eq]; simp
  · show k0_off2 t 1 + 1 * 0 = 0
    rw [k0_off2_eq]; simp

/-- What the sweeps read, from the boxes `B` and the weights `W`. -/
structure Holds (E : Env Ideal) (B : Fin 5120 → Fin 4 → EReal) (W : Fin 5120 → EReal) : Prop where
  x1 : ∀ j, E.x1 (ix2 0 j) = B j 0
  y1 : ∀ j, E.y1 (ix2 0 j) = B j 1
  x2 : ∀ j, E.x2 (ix2 0 j) = B j 2
  y2 : ∀ j, E.y2 (ix2 0 j) = B j 3
  area : ∀ j, E.area (ix2 0 j) = areaOf (B j)
  wRow : ∀ j, E.wRow (ix2 0 j) = W j
  idx : E.idx = iota .tc S1x5120 32 [1] iota_S1x5120_d1_w32
  boxes : ∀ i c, E.boxes (ix2 i c) = B i c
  wCol : ∀ i, E.wCol (ix2 i 0) = W i

section

variable {E : Env Ideal} {B : Fin 5120 → Fin 4 → EReal} {W : Fin 5120 → EReal} (h : Holds E B W)
include h

theorem ovl_at (t : Fin k0_t1_loop.trips) (r : Fin 128) (j : Fin 5120) :
    ovl E t (ix2 r j) = 1#1 ↔ ovOf (B (rowOf t r)) (B j) := by
  unfold ovl
  pointwise [k0_pay20]
  simp only [tile4_at, h.x1, h.x2, h.y1, h.y2, h.area, h.boxes]
  rw [WordCmp.ofBool_decide_eq_one_iff]
  rfl

theorem wGt_at (t : Fin k0_t1_loop.trips) (r : Fin 128) (j : Fin 5120) :
    wGt E t (ix2 r j) = 1#1 ↔ W j < W (rowOf t r) := by
  unfold wGt
  pointwise [k0_pay22]
  simp only [tile1_at, h.wRow, h.wCol]
  rw [WordCmp.ofBool_decide_eq_one_iff]

theorem wEq_at (t : Fin k0_t1_loop.trips) (r : Fin 128) (j : Fin 5120) :
    wEq E t (ix2 r j) = 1#1 ↔ W (rowOf t r) = W j := by
  unfold wEq
  pointwise [k0_pay23]
  simp only [tile1_at, h.wRow, h.wCol]
  rw [WordCmp.ofBool_decide_eq_one_iff]

end

theorem word_row (t : Fin k0_t1_loop.trips) (r : Fin 128) :
    IntOp.addi (BitVec.ofNat 32 ↑r) (Scalar.muli (Scf.iv 0#32 1#32 ↑t) 128#32) = BitVec.ofNat 32 (rowOf t r).val := by
  have ht : t.val < 40 := lt_of_lt_of_eq t.isLt trips_eq
  have hi : (Scf.iv 0#32 1#32 t.val).toNat = t.val := WordArith.toNat_iv_zero_one _ (by omega)
  apply BitVec.eq_of_toNat_eq
  show (BitVec.ofNat 32 r.val + (Scf.iv 0#32 1#32 t.val) * 128#32).toNat = _
  rw [BitVec.toNat_add, BitVec.toNat_mul, hi]
  simp only [BitVec.toNat_ofNat, rowOf_val]
  have := r.isLt
  omega

theorem rowWord_at (t : Fin k0_t1_loop.trips) (r : Fin 128) (j : Fin 5120) :
    k0_pay24 0#32 1#32 t (ix2 r j) = BitVec.ofNat 32 (rowOf t r).val := by
  pointwise [k0_pay24, k0_pay21]
  exact word_row t r

theorem rowWord1_at (t : Fin k0_t1_loop.trips) (r : Fin 128) :
    k0_pay21 0#32 1#32 t (ix2 r 0) = BitVec.ofNat 32 (rowOf t r).val := by
  pointwise [k0_pay21]
  exact word_row t r

theorem colWord_at (r : Fin 128) (j : Fin 5120) :
    k0_pay25 (iota .tc S1x5120 32 [1] iota_S1x5120_d1_w32) (ix2 r j) = BitVec.ofNat 32 j.val := by
  pointwise [k0_pay25]

theorem idx_at (j : Fin 5120) : iota .tc S1x5120 32 [1] iota_S1x5120_d1_w32 (ix2 0 j) = BitVec.ofNat 32 j.val := by
  pointwise []

theorem slt_at (i j : Fin 5120) : IntOp.cmpi .slt (BitVec.ofNat 32 i.val) (BitVec.ofNat 32 j.val) = 1#1 ↔ i < j := by
  rw [WordCmp.cmpi_slt_ofNat (by have := i.isLt; omega) (by have := j.isLt; omega), WordCmp.ofBool_decide_eq_one_iff]
  exact Iff.rfl

theorem ne_at (i j : Fin 5120) : IntOp.cmpi .ne (BitVec.ofNat 32 i.val) (BitVec.ofNat 32 j.val) = 1#1 ↔ i ≠ j := by
  rw [WordCmp.cmpi_ne_eq, WordCmp.ofBool_decide_eq_one_iff, not_iff_not,
    WordCmp.ofNat_eq_ofNat_iff (by have := i.isLt; omega) (by have := j.isLt; omega)]
  exact Fin.ext_iff.symm

theorem row_idx (x : S1x5120.Idx) : ∃ j : Fin 5120, x = ix2 (0 : Fin 1) j :=
  ⟨x 1, (eq_ix2 x).trans (congrArg (fun a : Fin 1 => ix2 a (x 1)) (Subsingleton.elim (α := Fin 1) _ _))⟩

theorem col_idx (x : S5120x1.Idx) : ∃ j : Fin 5120, x = ix2 j (0 : Fin 1) :=
  ⟨x 0, (eq_ix2 x).trans (congrArg (fun a : Fin 1 => ix2 (x 0) a) (Subsingleton.elim (α := Fin 1) _ _))⟩

/-- Flags as a row, -/
def krOf (K : Fin 5120 → Prop) : FVec Ideal S1x5120 .f32 := fun x => flag (K (x 1))
/-- and as a column. -/
def kcOf (K : Fin 5120 → Prop) : FVec Ideal S5120x1 .f32 := fun x => flag (K (x 0))

section

variable {E : Env Ideal} {B : Fin 5120 → Fin 4 → EReal} {W : Fin 5120 → EReal} (h : Holds E B W)
include h

/-- The word of "a row of the tile ranks before". -/
theorem pri_at (t : Fin k0_t1_loop.trips) (r : Fin 128) (j : Fin 5120) :
    IntOp.ori (wGt E t (ix2 r j)) (IntOp.andi (wEq E t (ix2 r j)) (IntOp.cmpi .slt (k0_pay24 0#32 1#32 t (ix2 r j))
      (k0_pay25 E.idx (ix2 r j)))) = 1#1 ↔ priOf W (rowOf t r) j := by
  rw [ori_one, andi_one, wGt_at h, wEq_at h, h.idx, rowWord_at, colWord_at, slt_at]
  rfl

/-- One tile's votes against the elements of the row. -/
theorem tileVotes (K : Fin 5120 → Prop) (v : FVec Ideal S1x5120 .f32) (t : Fin k0_t1_loop.trips) (j : Fin 5120) :
    k0_pay7 v (ovl E t) (wGt E t) (wEq E t) (k0_pay24 0#32 1#32 t) (k0_pay25 E.idx) (tile1 (kcOf K) t) (ix2 0 j)
      = v (ix2 0 j) + ∑ r, flag ((ovOf (B (rowOf t r)) (B j) ∧ priOf W (rowOf t r) j) ∧ K (rowOf t r)) := by
  pointwise [k0_pay7, k0_pay6]
  congr 1
  refine Finset.sum_congr rfl fun r _ => ?_
  rw [tile1_at]
  refine select_flag ?_
  rw [andi_one, pri_at h, ovl_at h]

/-- The votes after `n` tiles: not negative, and zero where no kept element of these tiles ranks before and overlaps. -/
theorem votesTo_spec (K : Fin 5120 → Prop) (j : Fin 5120) (n : Nat) (hn : n ≤ k0_t1_loop.trips) :
    0 ≤ votesTo E (kcOf K) n (ix2 0 j) ∧ (votesTo E (kcOf K) n (ix2 0 j) = 0 ↔
      ∀ i : Fin 5120, i.val < 128 * n → priOf W i j → ovOf (B i) (B j) → ¬ K i) := by
  induction n with
  | zero =>
    have h0 : votesTo E (kcOf K) 0 (ix2 0 j) = 0 := by
      show k0_pay5 (ix2 0 j) = _
      pointwise [k0_pay5]
    rw [h0]
    refine ⟨le_refl _, iff_of_true rfl fun i hi => ?_⟩
    omega
  | succ n ih =>
    obtain ⟨h1, h2⟩ := ih (by omega)
    have hs := tileVotes h K (votesTo E (kcOf K) n) ⟨n, by omega⟩ j
    have e := votesTo_succ E (kcOf K) ⟨n, by omega⟩
    simp only at e
    rw [e, hs]
    refine ⟨add_nonneg h1 (sum_flag_nonneg _), ?_⟩
    rw [add_zero_iff h1 (sum_flag_nonneg _), h2, sum_flag]
    constructor
    · rintro ⟨ha, hb⟩ i hi hp ho hk
      by_cases hlt : i.val < 128 * n
      · exact ha i hlt hp ho hk
      · have hr : rowOf ⟨n, by omega⟩ ⟨i.val - 128 * n, by omega⟩ = i := Fin.ext (show 128 * n + (i.val - 128 * n) = i.val by omega)
        have := hb ⟨i.val - 128 * n, by omega⟩
        rw [hr] at this
        exact this ⟨⟨ho, hp⟩, hk⟩
    · intro ha
      refine ⟨fun i hi => ha i (by omega), fun r hr => ?_⟩
      exact ha _ (show 128 * n + r.val < 128 * (n + 1) by have := r.isLt; omega) hr.1.2 hr.1.1 hr.2

/-- One tile's column of votes. -/
theorem voteTile_at (K : Fin 5120 → Prop) (t : Fin k0_t1_loop.trips) (r : Fin 128) :
    voteTile E (krOf K) t (ix2 r 0)
      = ∑ j, flag (((ovOf (B (rowOf t r)) (B j) ∧ ¬ priOf W (rowOf t r) j) ∧ rowOf t r ≠ j) ∧ K j) := by
  unfold voteTile
  pointwise [k0_pay8, k0_pay6]
  refine Finset.sum_congr rfl fun j _ => ?_
  show Scalar.select _ (flag (K j)) (0 : EReal) = _
  refine select_flag ?_
  rw [andi_one, andi_one, xori_one, pri_at h, ovl_at h, rowWord1_at, h.idx, idx_at, ne_at]

theorem voteCol_spec (K : Fin 5120 → Prop) (i : Fin 5120) :
    voteCol E (krOf K) (ix2 i 0) = 0 ↔ sweep (priOf W) (fun a b => ovOf (B a) (B b)) K i := by
  have ht : i.val / 128 < k0_t1_loop.trips := by rw [trips_eq]; omega
  have e : voteCol E (krOf K) (ix2 i 0) = voteTile E (krOf K) ⟨i.val / 128, ht⟩ (ix2 ⟨i.val % 128, Nat.mod_lt _ (by decide)⟩ 0) := by
    unfold voteCol
    congr 1
    funext a
    fin_cases a <;> rfl
  have hr : rowOf ⟨i.val / 128, ht⟩ ⟨i.val % 128, Nat.mod_lt _ (by decide)⟩ = i :=
    Fin.ext (show 128 * (i.val / 128) + i.val % 128 = i.val by omega)
  rw [e, voteTile_at h, hr, sum_flag]
  unfold sweep
  refine forall_congr' fun j => ?_
  have hp := not_priOf W (i := i) (j := j)
  have ho : ovOf (B i) (B j) ↔ ovOf (B j) (B i) := ⟨ovOf_comm, ovOf_comm⟩
  constructor
  · intro H hp' ho' hk
    obtain ⟨h1, h2⟩ := hp.mpr hp'
    exact H ⟨⟨⟨ho.mpr ho', h1⟩, h2⟩, hk⟩
  · rintro H ⟨⟨⟨h0, h1⟩, h2⟩, hk⟩
    exact H (hp.mp ⟨h1, h2⟩) (ho.mp h0) hk

theorem votesTo_all (K : Fin 5120 → Prop) (j : Fin 5120) :
    votesTo E (kcOf K) k0_t1_loop.trips (ix2 0 j) = 0 ↔ sweep (priOf W) (fun a b => ovOf (B a) (B b)) K j := by
  rw [(votesTo_spec h K j _ le_rfl).2]
  unfold sweep
  refine forall_congr' fun i => ⟨fun H => H (by rw [trips_eq]; have := i.isLt; omega), fun H _ => H⟩

/-- One sweep's row flags, -/
theorem nextKr_eq (K : Fin 5120 → Prop) :
    nextKr E (kcOf K) = krOf (sweep (priOf W) (fun a b => ovOf (B a) (B b)) K) := by
  funext x
  obtain ⟨j, rfl⟩ := row_idx x
  unfold nextKr
  pointwise [k0_pay9]
  rw [sitofp_flag]
  exact flag_congr (votesTo_all h K _)

/-- and its column flags: the same. -/
theorem nextKc_eq (K : Fin 5120 → Prop) :
    nextKc E (krOf K) = kcOf (sweep (priOf W) (fun a b => ovOf (B a) (B b)) K) := by
  funext x
  obtain ⟨j, rfl⟩ := col_idx x
  unfold nextKc
  pointwise [k0_pay10]
  rw [sitofp_flag]
  exact flag_congr (voteCol_spec h K _)

/-- The word of "some flag changed". -/
theorem chg_eq (K : Fin 5120 → Prop) (hc : ¬ chg E (krOf K) (kcOf K) = 1#1) :
    sweep (priOf W) (fun a b => ovOf (B a) (B b)) K = K := by
  funext j
  by_contra hne
  apply hc
  unfold chg
  pointwise [k0_pay11, k0_pay9]
  rw [WordCmp.ofBool_decide_eq_one_iff, Finset.lt_fold_max]
  refine Or.inr ⟨((0 : Fin 1), j), Finset.mem_univ _, ?_⟩
  rw [if_pos]
  · exact zero_lt_one
  · rw [sitofp_flag]
    intro e
    have e' : flag (votesTo E (kcOf K) k0_t1_loop.trips (ix2 0 j) = 0) = flag (K j) := e
    rw [flag_inj, votesTo_all h] at e'
    exact hne (propext e')

/-- The loop's flags obey the rule, or are those after as many sweeps as it may make. -/
theorem loopFrom_spec (n : Nat) (K : Fin 5120 → Prop) :
    ∃ L, loopFrom E n 1#1 (krOf K) (kcOf K) = kcOf L ∧
      (sweep (priOf W) (fun a b => ovOf (B a) (B b)) L = L ∨ L = (sweep (priOf W) (fun a b => ovOf (B a) (B b)))^[n] K) := by
  induction n generalizing K with
  | zero => exact ⟨K, rfl, Or.inr rfl⟩
  | succ n ih =>
    rw [loopFrom, if_pos rfl, nextKr_eq h, nextKc_eq h]
    by_cases hc : chg E (krOf K) (kcOf K) = 1#1
    · rw [hc]
      obtain ⟨L, h1, h2⟩ := ih (sweep (priOf W) (fun a b => ovOf (B a) (B b)) K)
      exact ⟨L, h1, h2⟩
    · refine ⟨K, ?_, Or.inl (chg_eq h K hc)⟩
      rw [chg_eq h K hc]
      cases n with
      | zero => rfl
      | succ n => rw [loopFrom, if_neg hc]

/-- The flags the loop ends with obey the rule. -/
theorem loop_rule : ∃ L : Fin 5120 → Prop, loopFrom E 5120 1#1 k0_pay3 k0_pay2 = kcOf L ∧
    ∀ j, L j ↔ sweep (priOf W) (fun a b => ovOf (B a) (B b)) L j := by
  have e3 : (k0_pay3 : FVec Ideal S1x5120 .f32) = krOf fun _ => True := by
    funext x
    rw [eq_ix2 x]
    show _ = flag True
    rw [flag_true trivial]
    pointwise [k0_pay3]
  have e2 : (k0_pay2 : FVec Ideal S5120x1 .f32) = kcOf fun _ => True := by
    funext x
    rw [eq_ix2 x]
    show _ = flag True
    rw [flag_true trivial]
    pointwise [k0_pay2]
  obtain ⟨L, h1, h2⟩ := loopFrom_spec h 5120 fun _ => True
  refine ⟨L, by rw [e3, e2, h1], ?_⟩
  have hL : sweep (priOf W) (fun a b => ovOf (B a) (B b)) L = L := by
    rcases h2 with h2 | h2
    · exact h2
    · have := sweep_done (priOf_irrefl W) (priOf_trans W) (ov := fun a b => ovOf (B a) (B b)) fun _ => True
      rw [Fintype.card_fin] at this
      rw [h2]
      exact this
  intro j
  rw [hL]

end

end Cert.Proof.Val

end
-- ==== Proof.Val.KernelOut.lean ====
/-
  The idealized kernel's result, entry by entry: the row of the arguments times the kept flag, where the kept flags obey
  the rule of greedy suppression over the 5000 boxes. The 120 rows of padding suppress nothing.
-/
module

public import proofs.«01_k».proof.Proof.PI.Final
public import proofs.«01_k».proof.Proof.Val.Kernel

@[expose] public section

set_option maxRecDepth 4096

noncomputable section

namespace Cert.Proof.Val

open Cert.KernelIdeal Cert.KernelIdeal.Gen Cert.Proof.PI
open Idealize.ShloMosaic

theorem zero_at (x : S_.Idx) : (zero : FVec Ideal S_ .f32) x = 0 := by
  show (((0#32 : BitVec 32).toInt : ℝ) : EReal) = 0
  simp

/-- The box of a row, padded with zeros. -/
def boxOf (a : FVec Ideal S5000x4 .f32) (i : Fin 5120) (c : Fin 4) : EReal :=
  if h : i.val < 5000 then a (ix2 (⟨i.val, h⟩ : Fin 5000) c) else 0
/-- The score of a row, padded with zeros. -/
def scoreOf (a : FVec Ideal S5000 .f32) (i : Fin 5120) : EReal :=
  if h : i.val < 5000 then a (ix1 (⟨i.val, h⟩ : Fin 5000)) else 0

theorem pad4_at (a : FVec Ideal S5000x4 .f32) (i : Fin 5120) (c : Fin 4) : pad4 a (ix2 i c) = boxOf a i c := by
  unfold pad4
  pointwise []
  simp only [zero_at]
  rfl

theorem padS_at (a : FVec Ideal S5000 .f32) (i : Fin 5120) : padS a (ix2 i 0) = scoreOf a i := by
  unfold padS
  pointwise []
  simp only [zero_at]
  rfl

/-- A row of a transposed array is a column of the array. -/
theorem row4_at (a : FVec Ideal S5000x4 .f32) (r : Fin 4) (h : ∀ d, (![r.val, 0] : Fin 2 → Nat) d + S1x5120.size d ≤ S4x5120.size d)
    (j : Fin 5120) :
    row4 (transpose S4x5120 [1, 0] (pad4 a) transposes_S5120x4_S4x5120_1_0) r.val h (ix2 0 j) = boxOf a j r := by
  have e : row4 (transpose S4x5120 [1, 0] (pad4 a) transposes_S5120x4_S4x5120_1_0) r.val h (ix2 0 j)
      = transpose S4x5120 [1, 0] (pad4 a) transposes_S5120x4_S4x5120_1_0 (ix2 r j) := by
    unfold row4
    refine congrArg _ (funext fun d => Fin.ext ?_)
    fin_cases d
    · show r.val + 1 * 0 = r.val
      omega
    · show 0 + 1 * j.val = j.val
      omega
  rw [e]
  pointwise []
  rw [pad4_at]

theorem rowS_at (a : FVec Ideal S5000 .f32) (j : Fin 5120) :
    transpose S1x5120 [1, 0] (padS a) transposes_S5120x1_S1x5120_1_0 (ix2 0 j) = scoreOf a j := by
  pointwise []
  rw [padS_at]

theorem pay17_at (a b c d s : FVec Ideal S1x5120 .f32) (j : Fin 5120) :
    k0_pay17 (F := Ideal) a b c d s (ix2 0 j)
      = s (ix2 0 j) * (1 - Ideal.logistic ((a (ix2 0 j) + b (ix2 0 j) + c (ix2 0 j) + d (ix2 0 j)) * Ideal.ofBits .f32 1048576000#32)) := by
  pointwise [k0_pay17]

theorem pay1_at (u : FVec Ideal S5120x4 .f32) (s : FVec Ideal S5120x1 .f32) (j : Fin 5120) :
    k0_pay1 (F := Ideal) (k0_pay18 u) (k0_pay19 u) s (ix2 j 0)
      = s (ix2 j 0) * (1 - Ideal.logistic ((u (ix2 j 0) + u (ix2 j 1) + u (ix2 j 2) + u (ix2 j 3)) * Ideal.ofBits .f32 1048576000#32)) := by
  pointwise [k0_pay1, k0_pay18, k0_pay19]

theorem pay16_at (a b c d : FVec Ideal S1x5120 .f32) (j : Fin 5120) :
    k0_pay16 (F := Ideal) a b c d (ix2 0 j) = (c (ix2 0 j) - a (ix2 0 j)) * (d (ix2 0 j) - b (ix2 0 j)) := by
  pointwise [k0_pay16, k0_pay12, k0_pay13, k0_pay14, k0_pay15]

theorem pay12_at (a : FVec Ideal S1x5120 .f32) (j : Fin 5120) : k0_pay12 (F := Ideal) a (ix2 0 j) = a (ix2 0 j) := by
  pointwise [k0_pay12]
theorem pay13_at (a : FVec Ideal S1x5120 .f32) (j : Fin 5120) : k0_pay13 (F := Ideal) a (ix2 0 j) = a (ix2 0 j) := by
  pointwise [k0_pay13]
theorem pay14_at (a : FVec Ideal S1x5120 .f32) (j : Fin 5120) : k0_pay14 (F := Ideal) a (ix2 0 j) = a (ix2 0 j) := by
  pointwise [k0_pay14]
theorem pay15_at (a : FVec Ideal S1x5120 .f32) (j : Fin 5120) : k0_pay15 (F := Ideal) a (ix2 0 j) = a (ix2 0 j) := by
  pointwise [k0_pay15]

/-- What the sweeps read from the padded arguments. -/
theorem env_holds (a1 : FVec Ideal S5000 .f32) (a2 a3 : FVec Ideal S5000x4 .f32) :
    Holds (env (pad4 a2) (transpose S4x5120 [1, 0] (pad4 a2) transposes_S5120x4_S4x5120_1_0)
      (transpose S1x5120 [1, 0] (padS a1) transposes_S5120x1_S1x5120_1_0)
      (transpose S4x5120 [1, 0] (pad4 a3) transposes_S5120x4_S4x5120_1_0) (padS a1) (pad4 a3))
      (boxOf a2) (fun i => weightOf (scoreOf a1 i) (boxOf a3 i)) where
  x1 j := (pay12_at _ j).trans (row4_at a2 0 _ j)
  y1 j := (pay13_at _ j).trans (row4_at a2 1 _ j)
  x2 j := (pay14_at _ j).trans (row4_at a2 2 _ j)
  y2 j := (pay15_at _ j).trans (row4_at a2 3 _ j)
  area j := by
    refine (pay16_at _ _ _ _ j).trans ?_
    rw [areaOf, ← row4_at a2 0 inb_S4x5120_S1x5120_0_0 j, ← row4_at a2 1 inb_S4x5120_S1x5120_1_0 j,
      ← row4_at a2 2 inb_S4x5120_S1x5120_2_0 j, ← row4_at a2 3 inb_S4x5120_S1x5120_3_0 j]
    rfl
  wRow j := by
    refine (pay17_at _ _ _ _ _ j).trans ?_
    rw [weightOf, ← row4_at a3 0 inb_S4x5120_S1x5120_0_0 j, ← row4_at a3 1 inb_S4x5120_S1x5120_1_0 j,
      ← row4_at a3 2 inb_S4x5120_S1x5120_2_0 j, ← row4_at a3 3 inb_S4x5120_S1x5120_3_0 j, ← rowS_at]
    rfl
  idx := rfl
  boxes i c := pad4_at a2 i c
  wCol i := by
    refine (pay1_at _ _ i).trans ?_
    rw [weightOf, padS_at, pad4_at, pad4_at, pad4_at, pad4_at]

/-- Row `i` among the padded rows. -/
def up (i : Fin 5000) : Fin 5120 := ⟨i.val, by omega⟩

theorem boxOf_up (a : FVec Ideal S5000x4 .f32) (i : Fin 5000) : boxOf a (up i) = fun c => a (ix2 i c) := by
  funext c
  exact dif_pos i.isLt
theorem scoreOf_up (a : FVec Ideal S5000 .f32) (i : Fin 5000) : scoreOf a (up i) = a (ix1 i) := dif_pos i.isLt

/-- The rule over the padded rows, seen over the 5000 rows. -/
theorem rule_down (a1 : FVec Ideal S5000 .f32) (a2 a3 : FVec Ideal S5000x4 .f32) (L : Fin 5120 → Prop)
    (hL : ∀ j, L j ↔ sweep (priOf fun i => weightOf (scoreOf a1 i) (boxOf a3 i)) (fun a b => ovOf (boxOf a2 a) (boxOf a2 b)) L j)
    (j : Fin 5000) :
    L (up j) ↔ sweep (priOf fun i => weightOf (a1 (ix1 i)) fun c => a3 (ix2 i c))
      (fun a b => ovOf (fun c => a2 (ix2 a c)) fun c => a2 (ix2 b c)) (fun i => L (up i)) j := by
  rw [hL (up j)]
  unfold sweep
  constructor
  · intro H i hp ho
    refine H (up i) ?_ ?_
    · unfold priOf
      beta_reduce
      rw [scoreOf_up, scoreOf_up, boxOf_up, boxOf_up]
      exact hp
    · beta_reduce
      rw [boxOf_up, boxOf_up]
      exact ho
  · intro H i hp ho
    by_cases hi : i.val < 5000
    · have e : i = up ⟨i.val, hi⟩ := rfl
      rw [e] at hp ho ⊢
      refine H ⟨i.val, hi⟩ ?_ ?_
      · unfold priOf at hp
        beta_reduce at hp
        rw [scoreOf_up, scoreOf_up, boxOf_up, boxOf_up] at hp
        exact hp
      · rw [boxOf_up, boxOf_up] at ho
        exact ho
    · have e : boxOf a2 i = fun _ => 0 := funext fun c => dif_neg hi
      rw [e] at ho
      exact absurd ho (not_ovOf_zero _)

theorem padC_up (a : FVec Ideal S5000x32x2 .f32) (i : Fin 5000) (c : Fin 64) :
    padC a (ix2 (up i) c) = a (ix3 i (⟨c.val / 2, by omega⟩ : Fin 32) (⟨c.val % 2, by omega⟩ : Fin 2)) := by
  unfold padC
  pointwise []
  exact dif_pos i.isLt

theorem pay4_at (u b : FVec Ideal S5120x4 .f32) (s w k : FVec Ideal S5120x1 .f32) (c : FVec Ideal S5120x64 .f32) (j : Fin 5120) (l : Fin 74) :
    k0_pay4 (F := Ideal) (k0_pay18 u) b s w c k (ix2 j l)
      = rowSpec (fun r => b (ix2 j r)) (s (ix2 j 0)) (fun r => u (ix2 j r)) (w (ix2 j 0)) (fun r => c (ix2 j r)) l * k (ix2 j 0) := by
  pointwise [k0_pay4, k0_pay18]
  congr 1
  unfold rowSpec
  split_ifs <;> first | rfl | (congr 2; apply Fin.ext; show _ = 0; omega)

/-- The kernel's result, entry by entry. -/
theorem outOf_at (a0 : FVec Ideal S5000x32x2 .f32) (a1 : FVec Ideal S5000 .f32) (a2 a3 : FVec Ideal S5000x4 .f32) :
    ∃ K : Fin 5000 → Prop,
      (∀ j, K j ↔ sweep (priOf fun i => weightOf (a1 (ix1 i)) fun c => a3 (ix2 i c))
        (fun a b => ovOf (fun c => a2 (ix2 a c)) fun c => a2 (ix2 b c)) K j) ∧
      ∀ (i : Fin 5000) (l : Fin 74), outOf a0 a1 a2 a3 (ix2 i l)
        = rowSpec (fun c => a2 (ix2 i c)) (a1 (ix1 i)) (fun c => a3 (ix2 i c)) (weightOf (a1 (ix1 i)) fun c => a3 (ix2 i c))
            (fun c => a0 (ix3 i (⟨c.val / 2, by omega⟩ : Fin 32) (⟨c.val % 2, by omega⟩ : Fin 2))) l * flag (K i) := by
  obtain ⟨L, h1, h2⟩ := loop_rule (env_holds a1 a2 a3)
  refine ⟨fun i => L (up i), rule_down a1 a2 a3 L h2, fun i l => ?_⟩
  have e : outOf a0 a1 a2 a3 (ix2 i l) = out (pad4 a2) (transpose S4x5120 [1, 0] (pad4 a2) transposes_S5120x4_S4x5120_1_0)
      (transpose S1x5120 [1, 0] (padS a1) transposes_S5120x1_S1x5120_1_0) (transpose S4x5120 [1, 0] (pad4 a3) transposes_S5120x4_S4x5120_1_0)
      (padS a1) (pad4 a3) (padC a0) (ix2 (up i) l) := by
    unfold outOf
    pointwise []
    rfl
  rw [e]
  unfold out
  rw [h1, pay4_at]
  simp only [pad4_at, padS_at, padC_up]
  rw [show (fun r => boxOf a2 (up i) r) = fun c => a2 (ix2 i c) from boxOf_up a2 i,
    show (fun r => boxOf a3 (up i) r) = fun c => a3 (ix2 i c) from boxOf_up a3 i, scoreOf_up,
    (env_holds a1 a2 a3).wCol (up i), scoreOf_up, boxOf_up]
  rfl

end Cert.Proof.Val

end
-- ==== Proof.Val.RefStages.lean ====
/-
  The reference, stretch by stretch: what each stretch of operations leaves in the buffers that later ones read, as
  functions of what it found.
-/
module

public import proofs.«01_k».proof.Proof.RI.Frame
public import Idealize.ShloMosaic.Lib.StableHlo.RunRead
public import Idealize.ShloMosaic.Lib.StableHlo.RunLoop

@[expose] public section

noncomputable section

namespace Cert.Proof.Val.Ref

open Cert.ReferenceIdeal Cert.ReferenceIdeal.Gen Cert.ReferenceIdeal.Value
open Idealize.ShloMosaic Idealize.ShloMosaic.TcCoe Idealize.ShloMosaic.StableHlo

variable {F : FTy → Type} [FloatOps F]

/-- The weights: the scores times one minus the logistic of the mean uncertainty. -/
def wRef (a1 : FVec F S5000 .f32) (a3 : FVec F S5000x4 .f32) : FVec F S5000 .f32 :=
  mulf a1 (subf (broadcastInDim S5000 ![] bcast_S_S5000 (constant S_ .f32 0x3F800000#32))
    (Host.divf (broadcastInDim S5000 ![] bcast_S_S5000 (constant S_ .f32 0x3F800000#32))
      (addf (broadcastInDim S5000 ![] bcast_S_S5000 (constant S_ .f32 0x3F800000#32))
        (Host.exp (Host.negf (Host.divf (Host.reduceAdd a3 (constant S_ .f32 0x00000000#32) reducesTo_S5000x4_S5000_d1 h_S_)
          (broadcastInDim S5000 ![] bcast_S_S5000 (constant S_ .f32 0x40800000#32))))))))

/-- The order: the indices sorted by falling weight. -/
def ordRef (v : FVec F S5000 .f32) : IVec S5000 32 := (Host.sort2 S5000 0 comparator_f32_i32_d0 v (iotaInDim S5000 32 0)).2

/-- The order as indices to read and write rows by. -/
def rowsRef (o : IVec S5000 32) : IVec S5000x1 32 :=
  broadcastInDim S5000x1 ![0] bcast_S5000_S5000x1_0 (select (cmpi .slt o (broadcastInDim S5000 ![] bcast_S_S5000 (constantI S_ 32 0#32)))
    (addi o (broadcastInDim S5000 ![] bcast_S_S5000 (constantI S_ 32 5000#32))) o)

/-- The boxes in that order. -/
def boxRef (a2 : FVec F S5000x4 .f32) (o : IVec S5000 32) : FVec F S5000x4 .f32 :=
  Host.gather gather_S5000x4_S5000x1_S5000x4_1_0_n_n_0_1_14 a2 (rowsRef o)

/-- Their areas. -/
def areaRef (b : FVec F S5000x4 .f32) : FVec F S5000 .f32 :=
  mulf (subf (shapeCast S5000 (extractStridedSlice S5000x1 ![0, 2] b slices_S5000x4_S5000x1_0_2) shapeCasts_S5000x1_S5000)
      (shapeCast S5000 (extractStridedSlice S5000x1 ![0, 0] b slices_S5000x4_S5000x1_0_0) shapeCasts_S5000x1_S5000))
    (subf (shapeCast S5000 (extractStridedSlice S5000x1 ![0, 3] b slices_S5000x4_S5000x1_0_3) shapeCasts_S5000x1_S5000)
      (shapeCast S5000 (extractStridedSlice S5000x1 ![0, 1] b slices_S5000x4_S5000x1_0_1) shapeCasts_S5000x1_S5000))

/-- Width and height of the pairs' intersections, before they are clipped at zero. -/
def sideRef (b : FVec F S5000x4 .f32) : FVec F S5000x5000x2 .f32 :=
  subf (minimumf
      (broadcastInDim S5000x5000x2 ![0, 1, 2] bcast_S5000x1x2_S5000x5000x2_0_1_2 (broadcastInDim S5000x1x2 ![0, 2] bcast_S5000x2_S5000x1x2_0_2
        (extractStridedSlice S5000x2 ![0, 2] b slices_S5000x4_S5000x2_0_2)))
      (broadcastInDim S5000x5000x2 ![0, 1, 2] bcast_S1x5000x2_S5000x5000x2_0_1_2 (broadcastInDim S1x5000x2 ![1, 2] bcast_S5000x2_S1x5000x2_1_2
        (extractStridedSlice S5000x2 ![0, 2] b slices_S5000x4_S5000x2_0_2))))
    (maximumf
      (broadcastInDim S5000x5000x2 ![0, 1, 2] bcast_S5000x1x2_S5000x5000x2_0_1_2 (broadcastInDim S5000x1x2 ![0, 2] bcast_S5000x2_S5000x1x2_0_2
        (extractStridedSlice S5000x2 ![0, 0] b slices_S5000x4_S5000x2_0_0)))
      (broadcastInDim S5000x5000x2 ![0, 1, 2] bcast_S1x5000x2_S5000x5000x2_0_1_2 (broadcastInDim S1x5000x2 ![1, 2] bcast_S5000x2_S1x5000x2_1_2
        (extractStridedSlice S5000x2 ![0, 0] b slices_S5000x4_S5000x2_0_0))))

/-- Clipped at zero. -/
def clipRef (x : FVec F S5000x5000x2 .f32) : FVec F S5000x5000x2 .f32 :=
  maximumf (broadcastInDim S5000x5000x2 ![] bcast_S_S5000x5000x2 (id (constant S_ .f32 0x00000000#32))) x

/-- The pairs' intersections. -/
def interRef (x : FVec F S5000x5000x2 .f32) : FVec F S5000x5000 .f32 :=
  mulf (shapeCast S5000x5000 (extractStridedSlice S5000x5000x1 ![0, 0, 0] x slices_S5000x5000x2_S5000x5000x1_0_0_0) shapeCasts_S5000x5000x1_S5000x5000)
    (shapeCast S5000x5000 (extractStridedSlice S5000x5000x1 ![0, 0, 1] x slices_S5000x5000x2_S5000x5000x1_0_0_1) shapeCasts_S5000x5000x1_S5000x5000)

/-- Intersection over union of the pairs. -/
def iouRef (x : FVec F S5000x5000x2 .f32) (a : FVec F S5000 .f32) : FVec F S5000x5000 .f32 :=
  Host.divf (interRef x)
    (maximumf (subf (addf
        (broadcastInDim S5000x5000 ![0, 1] bcast_S5000x1_S5000x5000_0_1 (broadcastInDim S5000x1 ![0] bcast_S5000_S5000x1_0 a))
        (broadcastInDim S5000x5000 ![0, 1] bcast_S1x5000_S5000x5000_0_1 (broadcastInDim S1x5000 ![1] bcast_S5000_S1x5000_1 a)))
        (interRef x))
      (broadcastInDim S5000x5000 ![] bcast_S_S5000x5000 (constant S_ .f32 0x3089705F#32)))

/-- The kept flags, brought back from the order. -/
def keptRef (o : IVec S5000 32) (s : IVec S5000 1) : IVec S5000 1 :=
  Host.scatter scatter_S5000_S5000x1_S5000_n_0_0_1 (fun _ b => b) (broadcastInDim S5000 ![] bcast_S_S5000 (constantI S_ 1 0#1))
    (rowsRef o) (noti s)

/-- The result. -/
def resRef (a0 : FVec F S5000x32x2 .f32) (a1 : FVec F S5000 .f32) (a2 a3 : FVec F S5000x4 .f32) (w : FVec F S5000 .f32) (k : IVec S5000 1) :
    FVec F S5000x74 .f32 :=
  mulf (concatenate S5000x74 1 [⟨S5000x4, a2⟩, ⟨S5000x1, broadcastInDim S5000x1 ![0] bcast_S5000_S5000x1_0 a1⟩, ⟨S5000x4, a3⟩,
      ⟨S5000x1, broadcastInDim S5000x1 ![0] bcast_S5000_S5000x1_0 w⟩, ⟨S5000x64, shapeCast S5000x64 a0 shapeCasts_S5000x32x2_S5000x64⟩]
      concatenates_S5000x4_S5000x1_S5000x4_S5000x1_S5000x64_S5000x74_d1)
    (broadcastInDim S5000x74 ![0, 1] bcast_S5000x1_S5000x74_0_1 (broadcastInDim S5000x1 ![0] bcast_S5000_S5000x1_0 (uitofp .f32 k)))

section Stretches

variable (V : Valuation τ sig (Elt F))

theorem s0_v11 : after hostOps0 V (Proc.devRef .tc main_v11) = wRef (V (Proc.devRef .tc main_arg1)) (V (Proc.devRef .tc main_arg3)) := by
  unfold wRef
  simp only [hostOps0]
  after_results_entrywise []
theorem s0_v12 : after hostOps0 V (Proc.devRef .tc main_v12) = Host.negf (wRef (V (Proc.devRef .tc main_arg1)) (V (Proc.devRef .tc main_arg3))) := by
  unfold wRef
  simp only [hostOps0]
  after_results_entrywise []
theorem s1_v13 : after hostOps0_1 V (Proc.devRef .tc main_v13) = ordRef (V (Proc.devRef .tc main_v12)) := by
  unfold ordRef
  simp only [hostOps0_1]
  after_results_entrywise []
theorem s2_v31 : after hostOps0_2 V (Proc.devRef .tc main_v31)
    = areaRef (boxRef (V (Proc.devRef .tc main_arg2)) (V (Proc.devRef .tc main_v13))) := by
  unfold areaRef boxRef rowsRef
  simp only [hostOps0_2]
  after_results_entrywise []
theorem s2_v46 : after hostOps0_2 V (Proc.devRef .tc main_v46)
    = sideRef (boxRef (V (Proc.devRef .tc main_arg2)) (V (Proc.devRef .tc main_v13))) := by
  unfold sideRef boxRef rowsRef
  simp only [hostOps0_2]
  after_results_entrywise []
theorem s2_cst5 : after hostOps0_2 V (Proc.devRef .tc main_cst_5) = constant S_ .f32 0x00000000#32 := by
  simp only [hostOps0_2]
  after_results_entrywise []
theorem s3_v47 (hc : V (Proc.devRef .tc main_cst_5) = constant S_ .f32 0x00000000#32) :
    after hostOps0_3 V (Proc.devRef .tc main_v47) = clipRef (V (Proc.devRef .tc main_v46)) := by
  unfold clipRef
  rw [← hc]
  simp only [hostOps0_3]
  after_results_entrywise []
theorem s4_v64_0 : after hostOps0_4 V (Proc.devRef .tc main_v64_0)
    = iouRef (V (Proc.devRef .tc main_v47)) (V (Proc.devRef .tc main_v31)) := by
  unfold iouRef interRef
  simp only [hostOps0_4]
  after_results_entrywise []
theorem s4_v64_1 : after hostOps0_4 V (Proc.devRef .tc main_v64_1) = iotaInDim S5000 32 0 := by
  simp only [hostOps0_4]
  after_results_entrywise []
theorem s4_v64_4 : after hostOps0_4 V (Proc.devRef .tc main_v64_4) = broadcastInDim S5000 ![] bcast_S_S5000 (constantI S_ 1 0#1) := by
  simp only [hostOps0_4]
  after_results_entrywise []
theorem s4_v64_3 : after hostOps0_4 V (Proc.devRef .tc main_v64_3) = constantI S_ 32 0#32 := by
  simp only [hostOps0_4]
  after_results_entrywise []
theorem s5_v81 : after hostOps0_5 V (Proc.devRef .tc main_v81)
    = resRef (V (Proc.devRef .tc main_arg0)) (V (Proc.devRef .tc main_arg1)) (V (Proc.devRef .tc main_arg2)) (V (Proc.devRef .tc main_arg3))
        (V (Proc.devRef .tc main_v11)) (keptRef (V (Proc.devRef .tc main_v13)) (V (Proc.devRef .tc main_v64_4))) := by
  unfold resRef keptRef rowsRef
  simp only [hostOps0_5]
  after_results_entrywise []

end Stretches

end Cert.Proof.Val.Ref

end
-- ==== Proof.Val.RefRead.lean ====
/-
  The reference's stages, entry by entry, over the extended reals.
-/
module

public import proofs.«01_k».proof.Proof.Val.RefStages
public import proofs.«01_k».proof.Proof.Val.Boxes
public import Idealize.ShloMosaic.Lib.Routing.OpsSet

@[expose] public section

set_option maxRecDepth 16384

noncomputable section

namespace Cert.Proof.Val.Ref

open Cert.ReferenceIdeal Cert.ReferenceIdeal.Gen Cert.ReferenceIdeal.Value
open Idealize.ShloMosaic Idealize.ShloMosaic.TcCoe Idealize.ShloMosaic.StableHlo
open Idealize.ShloMosaic.Routing

/-- A quarter is what four divides by. -/
theorem div_four (x : EReal) : Ideal.div x (Ideal.ofBits .f32 1082130432#32) = x * Ideal.ofBits .f32 1048576000#32 := by
  have h4 : ((4 : ℝ) : EReal) ≠ 0 := by
    intro h; rw [EReal.coe_eq_zero] at h; norm_num at h
  rw [four_eq, quarter_eq, Ideal.div, if_neg h4, ← EReal.coe_inv]
  norm_num

/-- The number one. -/
theorem one_eq : Ideal.ofBits .f32 1065353216#32 = 1 := by
  simp [Ideal.ofBits, Ideal.ieee]
  rw [← EReal.coe_mul, ← EReal.coe_one, EReal.coe_eq_coe_iff]; norm_num

/-- The weights. -/
theorem wRef_at (a1 : FVec Ideal S5000 .f32) (a3 : FVec Ideal S5000x4 .f32) (p : Fin 5000) :
    wRef a1 a3 (ix1 p) = weightOf (a1 (ix1 p)) fun c => a3 (ix2 p c) := by
  pointwise [wRef]
  simp only [div_four]
  rw [Fin.sum_univ_four]
  rfl

/-- A row number below the count of rows is taken as it is. -/
theorem select_row {k : Nat} (hk : k < 5000) (x : BitVec 32) :
    Scalar.select (IntOp.cmpi .slt (BitVec.ofNat 32 k) 0#32) x (BitVec.ofNat 32 k) = BitVec.ofNat 32 k := by
  unfold Scalar.select
  rw [if_neg]
  intro h
  rw [show (0#32 : BitVec 32) = BitVec.ofNat 32 0 from rfl, WordCmp.cmpi_slt_ofNat (by norm_num; omega) (by norm_num)] at h
  rw [show (1 : BitVec 1) = 1#1 from rfl, WordCmp.ofBool_decide_eq_one_iff] at h
  omega

theorem rowsRef_at (o : IVec S5000 32) (p : Fin 5000) {k : Nat} (hk : k < 5000) (ho : o (ix1 p) = BitVec.ofNat 32 k) :
    rowsRef o (ix2 p 0) = BitVec.ofNat 32 k := by
  pointwise [rowsRef]
  rw [ho]
  exact select_row hk _

/-- The boxes in order. -/
theorem boxRef_at (a2 : FVec Ideal S5000x4 .f32) (o : IVec S5000 32) (p σ : Fin 5000) (ho : o (ix1 p) = BitVec.ofNat 32 σ.val) (c : Fin 4) :
    boxRef a2 o (ix2 p c) = a2 (ix2 σ c) :=
  gather_row gather_S5000x4_S5000x1_S5000x4_1_0_n_n_0_1_14 rfl rfl rfl rfl rfl a2 (rowsRef o) p c σ
    (rowsRef_at o p σ.isLt ho) (by norm_num)

/-- Intersection over union of a pair. -/
theorem iouRef_at (b : FVec Ideal S5000x4 .f32) (p q : Fin 5000) :
    iouRef (clipRef (sideRef b)) (areaRef b) (ix2 p q) = iouOf (fun c => b (ix2 p c)) fun c => b (ix2 q c) := by
  have hz : ∀ x : EReal, max (id (constant (F := Ideal) S_ .f32 0#32) ix0) x = max x 0 := fun x => by
    have : id (constant (F := Ideal) S_ .f32 0#32) ix0 = (0 : EReal) := Ideal.ofBits_zero_f32
    rw [this, max_comm]
  pointwise [iouRef, clipRef, sideRef, areaRef, interRef]
  simp only [hz]
  rfl

/-- One trip of the reference's loop. -/
def stepRef (iou : FVec Ideal S5000x5000 .f32) (ids : IVec S5000 32) (n : IVec S_ 32) (s : IVec S5000 1) : IVec S5000 1 :=
  ori s (andi (andi (cmpf .ogt (shapeCast S5000 (Host.dynamicSlice S1x5000 iou (fun k => (((![select (cmpi .slt n (constantI S_ 32 0#32)) (addi n (constantI S_ 32 5000#32)) n, select (cmpi .slt (constantI S_ 32 0#32) (constantI S_ 32 0#32)) (addi (constantI S_ 32 0#32) (constantI S_ 32 5000#32)) (constantI S_ 32 0#32)] : Fin 2 → IVec S_ 32)) k (Shape.Idx.first h_S_)).toInt) sliceFits_S5000x5000_S1x5000) shapeCasts_S1x5000_S5000) (broadcastInDim S5000 ![] bcast_S_S5000 (constant S_ .f32 0x3F000000#32)))
    (cmpi .sgt ids (broadcastInDim S5000 ![] bcast_S_S5000 n)))
    (broadcastInDim S5000 ![] bcast_S_S5000 (noti (shapeCast S_ (Host.dynamicSlice S1 s (fun k => (((![select (cmpi .slt n (constantI S_ 32 0#32)) (addi n (constantI S_ 32 5000#32)) n] : Fin 1 → IVec S_ 32)) k (Shape.Idx.first h_S_)).toInt) sliceFits_S5000_S1) shapeCasts_S1_S_))))

theorem step_eq (V : Valuation τ sig (Elt Ideal)) : step_main_v64_4 V
    = stepRef (V (Proc.devRef .tc main_v64_0)) (V (Proc.devRef .tc main_v64_1)) (V (Proc.devRef .tc main_v64_3)) (V (Proc.devRef .tc main_v64_4)) := rfl

theorem not_one (a : BitVec 1) : ~~~a = 1#1 ↔ ¬ a = 1#1 := by revert a; decide

/-- Trip `k` marks the boxes after `k` that overlap box `k`, if `k` is unmarked. -/
theorem stepRef_at (iou : FVec Ideal S5000x5000 .f32) (k : Fin 5000) (s : IVec S5000 1) (q : Fin 5000) :
    stepRef iou (iotaInDim S5000 32 0) (fun _ => BitVec.ofNat 32 k.val) s (ix1 q) = 1#1
      ↔ s (ix1 q) = 1#1 ∨ (Ideal.ofBits .f32 1056964608#32 < iou (ix2 k q) ∧ k < q) ∧ ¬ s (ix1 k) = 1#1 := by
  have hk := k.isLt
  have hi : (BitVec.ofNat 32 k.val).toInt = (k.val : Int) := Predicate.toInt_ofNat_small _ (by omega)
  pointwise [stepRef]
  rw [ori_one, andi_one, andi_one, WordCmp.ofBool_decide_eq_one_iff, WordCmp.cmpi_sgt_ofNat (by omega) (by omega), not_one]
  have h0 : ∀ h f, (∀ a, f a = ((![k.val, 0] : Fin 2 → Nat) a : Int)) → Host.clampedStart S5000x5000 S1x5000 h f 0 = k.val := fun h f hf =>
    Host.clampedStart_of_le h f 0 k.val (hf 0) (by show k.val + 1 ≤ 5000; omega)
  have h1 : ∀ h f, (∀ a, f a = ((![k.val, 0] : Fin 2 → Nat) a : Int)) → Host.clampedStart S5000x5000 S1x5000 h f 1 = 0 := fun h f hf =>
    Host.clampedStart_of_le h f 1 0 (hf 1) (by show 0 + 5000 ≤ 5000; omega)
  have h2 : ∀ h f, f 0 = (k.val : Int) → Host.clampedStart S5000 S1 h f 0 = k.val := fun h f hf =>
    Host.clampedStart_of_le h f 0 k.val hf (by show k.val + 1 ≤ 5000; omega)
  have g : ∀ (a b : Nat) (ha : a < 5000) (hb : b < 5000), a = k.val → b = q.val → iou (ix2 (⟨a, ha⟩ : Fin 5000) (⟨b, hb⟩ : Fin 5000)) = iou (ix2 k q) := by
    intro a b ha hb ea eb
    subst ea; subst eb; rfl
  have g' : ∀ (a : Nat) (ha : a < 5000), a = k.val → s (ix1 (⟨a, ha⟩ : Fin 5000)) = s (ix1 k) := by
    intro a ha ea
    subst ea; rfl
  have f0 : (Scalar.select (IntOp.cmpi .slt (BitVec.ofNat 32 k.val) 0#32) (IntOp.addi (BitVec.ofNat 32 k.val) 5000#32) (BitVec.ofNat 32 k.val)).toInt
      = (k.val : Int) := by rw [select_row hk, hi]
  have f1 : (Scalar.select (IntOp.cmpi .slt 0#32 0#32) (IntOp.addi 0#32 5000#32) 0#32).toInt = 0 := by decide
  rw [g _ _ _ _ (h0 _ _ fun a => ?_) ((congrArg (· + q.val) (h1 _ _ fun a => ?_)).trans (Nat.zero_add _)), g' _ _ (h2 _ _ f0),
    WordCmp.ofBool_decide_eq_one_iff]
  · rfl
  · match a with
    | ⟨0, _⟩ => exact f0
    | ⟨1, _⟩ => exact f1
  · match a with
    | ⟨0, _⟩ => exact f0
    | ⟨1, _⟩ => exact f1

end Cert.Proof.Val.Ref

end
-- ==== Proof.Val.Order.lean ====
/-
  The reference's order: a stable sort by falling weight lists the boxes so that a box listed before another ranks
  before it.
-/
module

public import proofs.«01_k».proof.Proof.Val.RefStages
public import proofs.«01_k».proof.Proof.Val.Boxes
public import Idealize.ShloMosaic.Lib.SortFacts

@[expose] public section

noncomputable section

namespace Cert.Proof.Val.Ref

open Cert.ReferenceIdeal Cert.ReferenceIdeal.Gen Cert.ReferenceIdeal.Value
open Idealize.ShloMosaic Idealize.ShloMosaic.TcCoe Idealize.ShloMosaic.StableHlo

/-- A stable sort of a rising list compares later elements with earlier ones only. -/
theorem stableSort_rising {n : Nat} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    refine insertBefore_congr R R' a _ fun b hb => h a b (hl.1 b ?_)
    exact (perm_stableSort R' l).mem_iff.mp hb

/-- The order of weighted boxes as a test. -/
def priB {n : Nat} (w : Fin n → EReal) (a b : Fin n) : Bool := @decide (priOf w a b) (Classical.propDecidable _)

theorem priB_true {n : Nat} {w : Fin n → EReal} {a b : Fin n} : priB w a b = true ↔ priOf w a b := by
  unfold priB; exact @decide_eq_true_iff _ (Classical.propDecidable _)
theorem priB_false {n : Nat} {w : Fin n → EReal} {a b : Fin n} : priB w a b = false ↔ ¬ priOf w a b := by
  unfold priB; exact @decide_eq_false_iff_not _ (Classical.propDecidable _)

/-- A stable sort by falling weight lists the elements by rank. -/
theorem sorted_pri {n : Nat} (w : Fin n → EReal) (R : Fin n → Fin n → Bool) (hR : ∀ a b, R a b = true ↔ w b < w a) (i j : Fin n)
    (hij : i < j) : priOf w (sortedFrom R i) (sortedFrom R j) := by
  have e : sortedFrom R = sortedFrom (priB w) := by
    have e0 : sortPositions n R = sortPositions n (priB w) := by
      refine stableSort_rising R (priB w) (fun a b hab => ?_) _ (List.pairwise_lt_finRange n)
      rw [Bool.eq_iff_iff, hR, priB_true]
      constructor
      · exact Or.inl
      · rintro (h | ⟨_, h⟩)
        · exact h
        · exact absurd hab (not_lt.mpr h.le)
    funext k
    unfold sortedFrom
    rw [List.get_of_eq e0]
    rfl
  have hne : sortedFrom R i ≠ sortedFrom R j := fun h => hij.ne (sortedFrom_injective R h)
  have hno : priB w (sortedFrom R j) (sortedFrom R i) = false := by
    rw [e]
    refine sortedFrom_noInversion (priB w) (priB w) (fun a b h => ?_) (fun a b h => h) (fun a b c hab hbc => ?_) i j hij
    · rw [priB_true] at h
      rw [priB_false]
      exact fun h' => priOf_irrefl w a (priOf_trans w _ _ _ h h')
    · rw [priB_false] at hab hbc ⊢
      intro hac
      by_cases h1 : a = b
      · exact hbc (h1 ▸ hac)
      · have hba := (not_priOf w).mp ⟨hab, h1⟩
        exact hbc (priOf_trans w _ _ _ hba hac)
  rw [priB_false] at hno
  exact (not_priOf w).mp ⟨hno, hne.symm⟩

/-- The sort's test compares the weights. -/
theorem comparator_at (x y : EReal) (a b : BitVec 32) :
    (comparator_f32_i32_d0 (F := Ideal) (-x, a) (-y, b) == 1#1) = true ↔ y < x := by
  have hs : ∀ z : EReal, Scalar.select (Ideal.cmp .oeq z 0) (0 : EReal) z = z := fun z => by
    unfold Scalar.select
    split
    · rename_i h
      exact ((Ideal.cmp_oeq_eq_one _ _).mp h).symm
    · rfl
  have hn : ∀ z k u : EReal, Scalar.select (Ideal.cmp .une z z) k u = u := fun z k u => by
    have : Ideal.cmp .une z z = 0#1 := by
      rw [Ideal.cmp_une]; simp
    rw [this]; rfl
  have e : comparator_f32_i32_d0 (F := Ideal) (-x, a) (-y, b) = Ideal.cmp .olt (-x) (-y) := by
    show Ideal.cmp .olt (Scalar.select (Ideal.cmp .une (-x) (-x)) _ (Scalar.select (Ideal.cmp .oeq (-x) (Ideal.ofBits .f32 0#32)) (Ideal.ofBits .f32 0#32) (-x)))
      (Scalar.select (Ideal.cmp .une (-y) (-y)) _ (Scalar.select (Ideal.cmp .oeq (-y) (Ideal.ofBits .f32 0#32)) (Ideal.ofBits .f32 0#32) (-y))) = _
    rw [hn, hn, Ideal.ofBits_zero_f32, hs, hs]
  rw [e, beq_iff_eq]
  exact (Ideal.cmp_olt_eq_one _ _).trans EReal.neg_lt_neg_iff

/-- The order lists the boxes by rank. -/
theorem ord_spec (w : FVec Ideal S5000 .f32) : ∃ σ : Fin 5000 → Fin 5000, Function.Bijective σ ∧
    (∀ p, ordRef (Host.negf w) (ix1 p) = BitVec.ofNat 32 (σ p).val) ∧
    ∀ p q, p < q → priOf (fun i => w (ix1 i)) (σ p) (σ q) := by
  let R : Fin 5000 → Fin 5000 → Bool := fun k k' =>
    comparator_f32_i32_d0 (F := Ideal) (-(w (ix1 k)), BitVec.ofNat 32 k.val) (-(w (ix1 k')), BitVec.ofNat 32 k'.val) == 1#1
  refine ⟨sortedFrom R, ⟨sortedFrom_injective R, sortedFrom_surjective R⟩, fun p => ?_, fun p q h => ?_⟩
  · have hal : ∀ (j : S5000.Idx) (k : Fin 5000), j.along 0 k = ix1 k := fun j k => by
      funext a; fin_cases a; rfl
    have hi : ∀ k : Fin 5000, iotaInDim S5000 32 0 (ix1 k) = BitVec.ofNat 32 k.val := fun k => rfl
    have hn : ∀ k : Fin 5000, Host.negf w (ix1 k) = -(w (ix1 k)) := fun k => rfl
    let R' : Fin 5000 → Fin 5000 → Bool := fun k k' =>
      comparator_f32_i32_d0 (F := Ideal) (Host.negf w ((ix1 p : S5000.Idx).along 0 k), iotaInDim S5000 32 0 ((ix1 p : S5000.Idx).along 0 k))
        (Host.negf w ((ix1 p : S5000.Idx).along 0 k'), iotaInDim S5000 32 0 ((ix1 p : S5000.Idx).along 0 k')) == 1#1
    have hR : R' = R := by
      funext k k'
      show (comparator_f32_i32_d0 (F := Ideal) (_, _) (_, _) == 1#1) = (comparator_f32_i32_d0 (F := Ideal) (_, _) (_, _) == 1#1)
      rw [hal, hal, hi, hi, hn, hn]
    have e : ordRef (Host.negf w) (ix1 p) = iotaInDim S5000 32 0 ((ix1 p : S5000.Idx).along 0 (sortedFrom R' p)) := rfl
    refine e.trans ((congrArg (iotaInDim S5000 32 0) (hal (ix1 p) (sortedFrom R' p))).trans ((hi _).trans ?_))
    exact congrArg (fun T : Fin 5000 → Fin 5000 → Bool => BitVec.ofNat 32 (sortedFrom T p).val) hR
  · exact sorted_pri _ R (fun a b => comparator_at _ _ _ _) p q h

end Cert.Proof.Val.Ref

end
-- ==== Proof.Val.RefOut.lean ====
/-
  The reference's result, entry by entry: its loop marks, in the order of falling weight, the boxes that an unmarked
  earlier box overlaps; the boxes left unmarked are the kept ones.
-/
module

public import proofs.«01_k».proof.Proof.Val.RefRead
public import proofs.«01_k».proof.Proof.Val.Order

@[expose] public section

set_option maxRecDepth 16384

noncomputable section

namespace Cert.Proof.Val.Ref

open Cert.ReferenceIdeal Cert.ReferenceIdeal.Gen Cert.ReferenceIdeal.Value
open Idealize.ShloMosaic Idealize.ShloMosaic.TcCoe Idealize.ShloMosaic.StableHlo
open Idealize.ShloMosaic.Routing

/-! ### Marking in turn -/

section Marking

variable {n : Nat} {S : Nat → Fin n → Prop} {ov : Fin n → Fin n → Prop}

/-- What is marked before trip `k`: what an earlier item overlaps that was unmarked at its own trip. -/
theorem marked_iff (h0 : ∀ q, ¬ S 0 q) (hs : ∀ k q : Fin n, S (k.val + 1) q ↔ S k.val q ∨ (ov k q ∧ k < q) ∧ ¬ S k.val k) :
    ∀ k, k ≤ n → ∀ q, S k q ↔ ∃ p : Fin n, p.val < k ∧ p < q ∧ ov p q ∧ ¬ S p.val p
  | 0, _, q => ⟨fun h => absurd h (h0 q), fun ⟨p, h, _⟩ => absurd h (Nat.not_lt_zero _)⟩
  | k + 1, hk, q => by
    rw [hs ⟨k, hk⟩ q, marked_iff h0 hs k (Nat.le_of_succ_le hk) q]
    constructor
    · rintro (⟨p, h1, h2⟩ | ⟨⟨h1, h2⟩, h3⟩)
      · exact ⟨p, Nat.lt_succ_of_lt h1, h2⟩
      · exact ⟨⟨k, hk⟩, Nat.lt_succ_self k, h2, h1, h3⟩
    · rintro ⟨p, h1, h2, h3, h4⟩
      rcases Nat.lt_succ_iff_lt_or_eq.mp h1 with h | h
      · exact Or.inl ⟨p, h, h2, h3, h4⟩
      · have e : p = ⟨k, hk⟩ := Fin.ext h
        rw [e] at h2 h3 h4
        exact Or.inr ⟨⟨h3, h2⟩, h4⟩

/-- After all trips the unmarked items are those that no earlier unmarked item overlaps. -/
theorem unmarked_sweep (h0 : ∀ q, ¬ S 0 q) (hs : ∀ k q : Fin n, S (k.val + 1) q ↔ S k.val q ∨ (ov k q ∧ k < q) ∧ ¬ S k.val k)
    (q : Fin n) : ¬ S n q ↔ ∀ p : Fin n, p < q → ov p q → S n p := by
  have hd : ∀ p : Fin n, S p.val p ↔ S n p := fun p => by
    rw [marked_iff h0 hs p.val p.isLt.le p, marked_iff h0 hs n le_rfl p]
    exact ⟨fun ⟨r, _, h⟩ => ⟨r, r.isLt, h⟩, fun ⟨r, _, h⟩ => ⟨r, h.1, h⟩⟩
  rw [marked_iff h0 hs n le_rfl q]
  constructor
  · intro h p hp ho
    by_contra hc
    exact h ⟨p, p.isLt, hp, ho, fun e => hc ((hd p).mp e)⟩
  · rintro h ⟨p, _, hp, ho, hc⟩
    exact hc ((hd p).mpr (h p hp ho))

end Marking

/-! ### The loop -/

section Loop

variable (m : (ℓ : Loc nD τ sig) → Buf (Elt Ideal) ℓ) (c : Dev nD)

/-- One trip on a carried buffer. -/
theorem atK_succ (k : Nat) {r : Ref sig .tc} (hr : r ∈ carriedRefs) :
    atK m (k + 1) c (Proc.devRef .tc r) = STEP (atK m k c) (Proc.devRef .tc r) := trip_agree (atK m k c) r hr

theorem atK_v64_0 : ∀ k, atK m k c (Proc.devRef .tc main_v64_0) = atK m 0 c (Proc.devRef .tc main_v64_0)
  | 0 => rfl
  | k + 1 => by rw [atK_succ m c k (by decide), STEP_main_v64_0, atK_v64_0 k]

theorem atK_v64_1 : ∀ k, atK m k c (Proc.devRef .tc main_v64_1) = atK m 0 c (Proc.devRef .tc main_v64_1)
  | 0 => rfl
  | k + 1 => by rw [atK_succ m c k (by decide), STEP_main_v64_1, atK_v64_1 k]

theorem atK_v64_3 (h0 : atK m 0 c (Proc.devRef .tc main_v64_3) = constantI S_ 32 0#32) :
    ∀ k, atK m k c (Proc.devRef .tc main_v64_3) = fun _ => BitVec.ofNat 32 k
  | 0 => h0
  | k + 1 => by
    rw [atK_succ m c k (by decide), STEP_main_v64_3]
    unfold step_main_v64_3
    rw [atK_v64_3 h0 k]
    funext i
    show BitVec.ofNat 32 k + 1#32 = BitVec.ofNat 32 (k + 1)
    rw [BitVec.ofNat_add]

/-- After the loop the unmarked positions are those that no earlier unmarked position overlaps. -/
theorem loop_sweep (iou : FVec Ideal S5000x5000 .f32)
    (h0 : atK m 0 c (Proc.devRef .tc main_v64_0) = iou)
    (h1 : atK m 0 c (Proc.devRef .tc main_v64_1) = iotaInDim S5000 32 0)
    (h3 : atK m 0 c (Proc.devRef .tc main_v64_3) = constantI S_ 32 0#32)
    (h4 : atK m 0 c (Proc.devRef .tc main_v64_4) = broadcastInDim S5000 ![] bcast_S_S5000 (constantI S_ 1 0#1)) :
    ∃ s : IVec S5000 1, atK m 5000 c (Proc.devRef .tc main_v64_4) = s ∧
      ∀ q : Fin 5000, ¬ s (ix1 q) = 1#1 ↔ ∀ p : Fin 5000, p < q → Ideal.ofBits .f32 1056964608#32 < iou (ix2 p q) → s (ix1 p) = 1#1 := by
  refine ⟨_, rfl, ?_⟩
  have key := unmarked_sweep (n := 5000) (S := fun k q => (atK m k c (Proc.devRef .tc main_v64_4) : IVec S5000 1) (ix1 q) = 1#1)
    (ov := fun p q => Ideal.ofBits .f32 1056964608#32 < iou (ix2 p q)) (fun q => by
      beta_reduce
      rw [h4]
      show ¬ (0#1 = 1#1)
      decide) (fun k q => by
      beta_reduce
      rw [atK_succ m c k.val (by decide), STEP_main_v64_4, step_eq, atK_v64_0, atK_v64_1, atK_v64_3 m c h3, h0, h1]
      exact stepRef_at iou k _ q)
  exact key

end Loop

/-! ### The kept flags and the result -/

theorem keptRef_at (o : IVec S5000 32) (s : IVec S5000 1) (σ : Fin 5000 → Fin 5000) (hσ : Function.Injective σ)
    (ho : ∀ p, o (ix1 p) = BitVec.ofNat 32 (σ p).val) (q : Fin 5000) :
    keptRef o s (ix1 (σ q)) = 1#1 ↔ ¬ s (ix1 q) = 1#1 := by
  have hn : ∀ i : Fin 5000, (rowsRef o (ix2 i (0 : Fin 1))).toInt = ((σ i).val : Int) := fun i => by
    rw [rowsRef_at o i (σ i).isLt (ho i)]
    exact Predicate.toInt_ofNat_small _ (by have := (σ i).isLt; omega)
  have e : keptRef o s (ix1 (σ q)) = ~~~ s (ix1 q) := by
    refine (scatter_set_signed scatter_S5000_S5000x1_S5000_n_0_0_1 rfl rfl rfl _ (rowsRef o) (noti s) (σ q) (~~~ s (ix1 q)) ?_).1 ⟨q, hn q⟩
    intro i hi
    have : i = q := hσ (Fin.ext (by exact_mod_cast (hn i).symm.trans hi))
    rw [this]; rfl
  rw [e, not_one]

theorem uitofp_flag (b : BitVec 1) : (FloatOps.uitofp .f32 b : Ideal .f32) = flag (b = 1#1) := by
  by_cases h : b = 1#1
  · rw [flag_true h, h]
    show (((1#1 : BitVec 1).toNat : ℝ) : EReal) = 1
    simp
  · have h0 : b = 0#1 := by revert h; revert b; decide
    rw [flag_false h, h0]
    show (((0#1 : BitVec 1).toNat : ℝ) : EReal) = 0
    simp

theorem resRef_at (a0 : FVec Ideal S5000x32x2 .f32) (a1 : FVec Ideal S5000 .f32) (a2 a3 : FVec Ideal S5000x4 .f32)
    (w : FVec Ideal S5000 .f32) (k : IVec S5000 1) (i : Fin 5000) (l : Fin 74) :
    resRef a0 a1 a2 a3 w k (ix2 i l) = rowSpec (fun c => a2 (ix2 i c)) (a1 (ix1 i)) (fun c => a3 (ix2 i c)) (w (ix1 i))
      (fun c => a0 (ix3 i (⟨c.val / 2, by omega⟩ : Fin 32) (⟨c.val % 2, by omega⟩ : Fin 2))) l * flag (k (ix1 i) = 1#1) := by
  pointwise [resRef]
  rw [uitofp_flag]
  rfl

/-- The reference's result of the marks `s` that its loop leaves. -/
theorem out_at (a0 : FVec Ideal S5000x32x2 .f32) (a1 : FVec Ideal S5000 .f32) (a2 a3 : FVec Ideal S5000x4 .f32) (s : IVec S5000 1)
    (hs : ∀ q : Fin 5000, ¬ s (ix1 q) = 1#1 ↔ ∀ p : Fin 5000, p < q → Ideal.ofBits .f32 1056964608#32
      < iouRef (clipRef (sideRef (boxRef a2 (ordRef (Host.negf (wRef a1 a3)))))) (areaRef (boxRef a2 (ordRef (Host.negf (wRef a1 a3))))) (ix2 p q)
      → s (ix1 p) = 1#1) :
    ∃ K : Fin 5000 → Prop,
      (∀ j, K j ↔ sweep (priOf fun i => weightOf (a1 (ix1 i)) fun c => a3 (ix2 i c))
        (fun a b => ovOf (fun c => a2 (ix2 a c)) fun c => a2 (ix2 b c)) K j) ∧
      ∀ (i : Fin 5000) (l : Fin 74), resRef a0 a1 a2 a3 (wRef a1 a3) (keptRef (ordRef (Host.negf (wRef a1 a3))) s) (ix2 i l)
        = rowSpec (fun c => a2 (ix2 i c)) (a1 (ix1 i)) (fun c => a3 (ix2 i c)) (weightOf (a1 (ix1 i)) fun c => a3 (ix2 i c))
            (fun c => a0 (ix3 i (⟨c.val / 2, by omega⟩ : Fin 32) (⟨c.val % 2, by omega⟩ : Fin 2))) l * flag (K i) := by
  obtain ⟨σ, hσ, ho, hp⟩ := ord_spec (wRef a1 a3)
  have hw : (fun i : Fin 5000 => wRef a1 a3 (ix1 i)) = fun i => weightOf (a1 (ix1 i)) fun c => a3 (ix2 i c) := funext fun i => wRef_at a1 a3 i
  rw [hw] at hp
  refine ⟨fun i => keptRef (ordRef (Host.negf (wRef a1 a3))) s (ix1 i) = 1#1, ?_, fun i l => by rw [resRef_at, wRef_at]⟩
  intro j
  obtain ⟨q, rfl⟩ := hσ.2 j
  have hb : ∀ p : Fin 5000, (fun c => boxRef a2 (ordRef (Host.negf (wRef a1 a3))) (ix2 p c)) = fun c => a2 (ix2 (σ p) c) :=
    fun p => funext fun c => boxRef_at a2 _ p (σ p) (ho p) c
  beta_reduce
  rw [keptRef_at _ s σ hσ.1 ho, hs q]
  constructor
  · intro h i hi hov
    obtain ⟨p, rfl⟩ := hσ.2 i
    have hlt : p < q := by
      rcases lt_trichotomy p q with h1 | h1 | h1
      · exact h1
      · rw [h1] at hi; exact absurd hi (priOf_irrefl _ _)
      · exact absurd (priOf_trans _ _ _ _ hi (hp q p h1)) (priOf_irrefl _ _)
    beta_reduce
    rw [keptRef_at _ s σ hσ.1 ho, not_not]
    refine h p hlt ?_
    rw [iouRef_at, hb, hb]
    exact hov
  · intro h p hlt hov
    rw [iouRef_at, hb, hb] at hov
    have := h (σ p) (hp p q hlt) hov
    beta_reduce at this
    rw [keptRef_at _ s σ hσ.1 ho, not_not] at this
    exact this

end Cert.Proof.Val.Ref

end
-- ==== Proof.Val.RefFinal.lean ====
/-
  The reference's last buffer, of its arguments.
-/
module

public import proofs.«01_k».proof.Proof.Val.RefOut

@[expose] public section

set_option maxRecDepth 16384

noncomputable section

namespace Cert.Proof.Val.Ref

open Cert.ReferenceIdeal Cert.ReferenceIdeal.Gen Cert.ReferenceIdeal.Value
open Idealize.ShloMosaic Idealize.ShloMosaic.TcCoe Idealize.ShloMosaic.StableHlo

variable (m : (ℓ : Loc nD τ sig) → Buf (Elt Ideal) ℓ) (c : Dev nD)

/-- The loop's entry is the five stretches in turn. -/
theorem entry_eq : entryContents preI m c
    = after hostOps0_4 (after hostOps0_3 (after hostOps0_2 (after hostOps0_1 (after hostOps0 (launchContents m c))))) := rfl

/-- A buffer after the first three stretches that the next two leave alone. -/
theorem entry_late {r : Ref sig .tc} (h2 : r ∉ hostOps0_2_W) (h3 : r ∉ hostOps0_3_W) (h4 : r ∉ hostOps0_4_W) :
    entryContents preI m c (Proc.devRef .tc r) = after hostOps0_1 (after hostOps0 (launchContents m c)) (Proc.devRef .tc r) := by
  rw [entry_eq]
  rw [after_of_writes_sub _ _ (hostOps0_4_writes (F := Ideal)) h4, after_of_writes_sub _ _ (hostOps0_3_writes (F := Ideal)) h3,
    after_of_writes_sub _ _ (hostOps0_2_writes (F := Ideal)) h2]

/-- The arguments at the third stretch. -/
theorem early_arg {r : Ref sig .tc} (h0 : r ∉ hostOps0_W) (h1 : r ∉ hostOps0_1_W) :
    after hostOps0_1 (after hostOps0 (launchContents m c)) (Proc.devRef .tc r) = launchContents m c (Proc.devRef .tc r) := by
  rw [after_of_writes_sub _ _ (hostOps0_1_writes (F := Ideal)) h1, after_of_writes_sub _ _ (hostOps0_writes (F := Ideal)) h0]

/-- The order, at the third stretch. -/
theorem early_ord : after hostOps0_1 (after hostOps0 (launchContents m c)) (Proc.devRef .tc main_v13)
    = ordRef (F := Ideal) (Host.negf (wRef (F := Ideal) (launchContents m c (Proc.devRef .tc main_arg1)) (launchContents m c (Proc.devRef .tc main_arg3)))) := by
  rw [s1_v13, s0_v12]

/-- The weights, at the third stretch. -/
theorem early_w : after hostOps0_1 (after hostOps0 (launchContents m c)) (Proc.devRef .tc main_v11)
    = wRef (F := Ideal) (launchContents m c (Proc.devRef .tc main_arg1)) (launchContents m c (Proc.devRef .tc main_arg3)) := by
  rw [after_of_writes_sub _ _ (hostOps0_1_writes (F := Ideal)) (by decide), s0_v11]

/-- The overlaps, at the loop's entry. -/
theorem entry_iou : entryContents preI m c (Proc.devRef .tc main_v64_0)
    = iouRef (F := Ideal) (clipRef (F := Ideal) (sideRef (F := Ideal) (boxRef (F := Ideal) (launchContents m c (Proc.devRef .tc main_arg2))
          (ordRef (F := Ideal) (Host.negf (wRef (F := Ideal) (launchContents m c (Proc.devRef .tc main_arg1)) (launchContents m c (Proc.devRef .tc main_arg3))))))))
        (areaRef (F := Ideal) (boxRef (F := Ideal) (launchContents m c (Proc.devRef .tc main_arg2))
          (ordRef (F := Ideal) (Host.negf (wRef (F := Ideal) (launchContents m c (Proc.devRef .tc main_arg1)) (launchContents m c (Proc.devRef .tc main_arg3))))))) := by
  rw [entry_eq]
  rw [s4_v64_0, s3_v47 _ (s2_cst5 (F := Ideal) _), s2_v46, after_of_writes_sub _ _ (hostOps0_3_writes (F := Ideal)) (by decide), s2_v31, early_ord,
    early_arg m c (by decide) (by decide)]

/-- What else the loop carries, at its entry: the positions, the trip number and the marks. -/
theorem entry_rest : entryContents preI m c (Proc.devRef .tc main_v64_1) = iotaInDim S5000 32 0
    ∧ entryContents preI m c (Proc.devRef .tc main_v64_3) = constantI S_ 32 0#32
    ∧ entryContents preI m c (Proc.devRef .tc main_v64_4) = broadcastInDim S5000 ![] bcast_S_S5000 (constantI S_ 1 0#1) := by
  rw [entry_eq]
  exact ⟨s4_v64_1 _, s4_v64_3 _, s4_v64_4 _⟩

/-- What the last stretch reads of a buffer that the loop leaves alone. -/
theorem last_kept {r : Ref sig .tc} (hc : r ∉ condOps_W) (hb : r ∉ while0Ops0_W) :
    after condOps (atK m 5000 c) (Proc.devRef .tc r) = entryContents preI m c (Proc.devRef .tc r) := by
  rw [after_of_writes_sub _ _ (condOps_writes (F := Ideal)) hc, RI.trips_kept m hc hb c]

/-- The reference's result, entry by entry. -/
theorem final_at :
    ∃ K : Fin 5000 → Prop,
      (∀ j, K j ↔ sweep (priOf fun i => weightOf ((m ((c.tc : Thread nD τ).loc main_arg1) : FVec Ideal S5000 .f32) (ix1 i)) fun r => (m ((c.tc : Thread nD τ).loc main_arg3) : FVec Ideal S5000x4 .f32) (ix2 i r))
        (fun a b => ovOf (fun r => (m ((c.tc : Thread nD τ).loc main_arg2) : FVec Ideal S5000x4 .f32) (ix2 a r)) fun r => (m ((c.tc : Thread nD τ).loc main_arg2) : FVec Ideal S5000x4 .f32) (ix2 b r)) K j) ∧
      ∀ (i : Fin 5000) (l : Fin 74), (finalContents condOps preI bodyI postI 5000 m c (Proc.devRef .tc main_v81) : FVec Ideal S5000x74 .f32) (ix2 i l)
        = rowSpec (fun r => (m ((c.tc : Thread nD τ).loc main_arg2) : FVec Ideal S5000x4 .f32) (ix2 i r)) ((m ((c.tc : Thread nD τ).loc main_arg1) : FVec Ideal S5000 .f32) (ix1 i))
            (fun r => (m ((c.tc : Thread nD τ).loc main_arg3) : FVec Ideal S5000x4 .f32) (ix2 i r))
            (weightOf ((m ((c.tc : Thread nD τ).loc main_arg1) : FVec Ideal S5000 .f32) (ix1 i)) fun r => (m ((c.tc : Thread nD τ).loc main_arg3) : FVec Ideal S5000x4 .f32) (ix2 i r))
            (fun r => (m ((c.tc : Thread nD τ).loc main_arg0) : FVec Ideal S5000x32x2 .f32) (ix3 i (⟨r.val / 2, by omega⟩ : Fin 32) (⟨r.val % 2, by omega⟩ : Fin 2))) l * flag (K i) := by
  obtain ⟨s, hs, hq⟩ := loop_sweep m c _ (entry_iou m c) (entry_rest m c).1 (entry_rest m c).2.1 (entry_rest m c).2.2
  obtain ⟨K, h1, h2⟩ := out_at (launchContents m c (Proc.devRef .tc main_arg0)) (launchContents m c (Proc.devRef .tc main_arg1))
    (launchContents m c (Proc.devRef .tc main_arg2)) (launchContents m c (Proc.devRef .tc main_arg3)) s hq
  refine ⟨K, h1, fun i l => ?_⟩
  have e : finalContents condOps preI bodyI postI 5000 m c (Proc.devRef .tc main_v81)
      = resRef (F := Ideal) (launchContents m c (Proc.devRef .tc main_arg0)) (launchContents m c (Proc.devRef .tc main_arg1))
          (launchContents m c (Proc.devRef .tc main_arg2)) (launchContents m c (Proc.devRef .tc main_arg3))
          (wRef (F := Ideal) (launchContents m c (Proc.devRef .tc main_arg1)) (launchContents m c (Proc.devRef .tc main_arg3)))
          (keptRef (ordRef (F := Ideal) (Host.negf (wRef (F := Ideal) (launchContents m c (Proc.devRef .tc main_arg1)) (launchContents m c (Proc.devRef .tc main_arg3))))) s) := by
    show after (hostOps0_5 (F := Ideal)) (after condOps (atK m 5000 c)) _ = _
    have hm : after condOps (atK m 5000 c) (Proc.devRef .tc main_v64_4) = s := by
      rw [after_of_writes_sub _ _ (condOps_writes (F := Ideal)) (by decide), hs]
    rw [s5_v81, hm]
    rw [last_kept m c (r := main_arg0) (by decide) (by decide), last_kept m c (r := main_arg1) (by decide) (by decide),
      last_kept m c (r := main_arg2) (by decide) (by decide), last_kept m c (r := main_arg3) (by decide) (by decide),
      last_kept m c (r := main_v11) (by decide) (by decide), last_kept m c (r := main_v13) (by decide) (by decide)]
    rw [RI.entry_kept m (r := main_arg0) (by decide) (by decide) (by decide) (by decide) (by decide),
      RI.entry_kept m (r := main_arg1) (by decide) (by decide) (by decide) (by decide) (by decide),
      RI.entry_kept m (r := main_arg2) (by decide) (by decide) (by decide) (by decide) (by decide),
      RI.entry_kept m (r := main_arg3) (by decide) (by decide) (by decide) (by decide) (by decide),
      entry_late m c (r := main_v11) (by decide) (by decide) (by decide), entry_late m c (r := main_v13) (by decide) (by decide) (by decide),
      early_ord, early_w]
  exact (congrFun e (ix2 i l)).trans (h2 i l)

end Cert.Proof.Val.Ref

end
-- ==== Proof.Val.Result.lean ====
/-
  The kernel's result and the reference's are one: both keep the boxes that no kept box of higher rank overlaps, and only
  one set of boxes obeys that rule.
-/
module

public import proofs.«01_k».proof.Proof.Val.KernelOut
public import proofs.«01_k».proof.Proof.Val.RefFinal
public import proofs.«01_k».proof.Proof.PI.Final

@[expose] public section

set_option maxRecDepth 4096

noncomputable section

namespace Cert.Proof.Val

open Idealize.ShloMosaic Idealize.ShloMosaic.TcCoe Idealize.ShloMosaic.StableHlo

/-- The last buffer of the reference is the kernel's result of the same arguments. -/
theorem result_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (e0 : m' ((c.tc : Thread ReferenceIdeal.nD ReferenceIdeal.τ).loc ReferenceIdeal.main_arg0)
      = m ((c.tc : Thread KernelIdeal.nD KernelIdeal.τ).loc KernelIdeal.main_arg0))
    (e1 : m' ((c.tc : Thread ReferenceIdeal.nD ReferenceIdeal.τ).loc ReferenceIdeal.main_arg1)
      = m ((c.tc : Thread KernelIdeal.nD KernelIdeal.τ).loc KernelIdeal.main_arg1))
    (e2 : m' ((c.tc : Thread ReferenceIdeal.nD ReferenceIdeal.τ).loc ReferenceIdeal.main_arg2)
      = m ((c.tc : Thread KernelIdeal.nD KernelIdeal.τ).loc KernelIdeal.main_arg2))
    (e3 : m' ((c.tc : Thread ReferenceIdeal.nD ReferenceIdeal.τ).loc ReferenceIdeal.main_arg3)
      = m ((c.tc : Thread KernelIdeal.nD KernelIdeal.τ).loc KernelIdeal.main_arg3)) :
    finalContents ReferenceIdeal.Value.condOps ReferenceIdeal.Value.preI ReferenceIdeal.Value.bodyI ReferenceIdeal.Value.postI 5000 m' c
        (Proc.devRef .tc ReferenceIdeal.main_v81)
      = PI.outOf (F := Ideal) (m ((c.tc : Thread KernelIdeal.nD KernelIdeal.τ).loc KernelIdeal.main_arg0))
          (m ((c.tc : Thread KernelIdeal.nD KernelIdeal.τ).loc KernelIdeal.main_arg1))
          (m ((c.tc : Thread KernelIdeal.nD KernelIdeal.τ).loc KernelIdeal.main_arg2))
          (m ((c.tc : Thread KernelIdeal.nD KernelIdeal.τ).loc KernelIdeal.main_arg3)) := by
  obtain ⟨K, hK, hk⟩ := Ref.final_at m' c
  rw [e0, e1, e2, e3] at hk
  rw [e1, e2, e3] at hK
  obtain ⟨L, hL, hl⟩ := outOf_at (m ((c.tc : Thread KernelIdeal.nD KernelIdeal.τ).loc KernelIdeal.main_arg0))
    (m ((c.tc : Thread KernelIdeal.nD KernelIdeal.τ).loc KernelIdeal.main_arg1))
    (m ((c.tc : Thread KernelIdeal.nD KernelIdeal.τ).loc KernelIdeal.main_arg2))
    (m ((c.tc : Thread KernelIdeal.nD KernelIdeal.τ).loc KernelIdeal.main_arg3))
  have hKL := sweep_unique (priOf_irrefl _) (priOf_trans _) hK hL
  funext j
  obtain ⟨i, l, rfl⟩ : ∃ (i : Fin 5000) (l : Fin 74), j = ix2 i l := ⟨j 0, j 1, by funext a; fin_cases a <;> rfl⟩
  exact (hk i l).trans ((congrArg _ (flag_congr (hKL i))).trans (hl i l).symm)

end Cert.Proof.Val

end
-- ==== Proof.lean ====
/-
  The proof of the claims: the kernel, the kernel over the extended reals and the reference each terminate without fault,
  with unchanged arguments and every semaphore counter at zero; and over the extended reals the kernel and the reference
  end with equal results from equal arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.P.Final
public import proofs.«01_k».proof.Proof.PI.Final
public import proofs.«01_k».proof.Proof.RI.Frame
public import proofs.«01_k».proof.Proof.Val.Result
public import Idealize.ShloMosaic.Adequacy
public import Idealize.ShloMosaic.Init

@[expose] public section

noncomputable section

namespace Cert.Proof

open Idealize.ShloMosaic Idealize.SL.Sem

/-- The kernel's frame. -/
theorem frame_kernel : quiescent_Kernel := fun m g _ =>
  (θ_run _ _ _).mono (fun _ h => ⟨fun c => (h.1 c).2, h.2⟩) (P.run_out m g)

/-- The frame of the kernel over the extended reals. -/
theorem frame_ideal : quiescent_KernelIdeal := fun m g _ =>
  (θ_run _ _ _).mono (fun _ h => ⟨fun c => (h.1 c).2, h.2⟩) (PI.run_out m g)

/-- The reference's frame. -/
theorem frame_reference : quiescent_ReferenceIdeal := fun m g _ =>
  (θ_run _ _ _).mono (fun _ h => ⟨fun c => (h.1 c).2, h.2⟩) (RI.run_ref m g)

/-- Over the extended reals the kernel and the reference end with equal results. -/
theorem equal_results : algebraic_KernelIdeal_ReferenceIdeal := fun m g m' g' _ hin =>
  ⟨_, (θ_run _ _ _).mono (fun _ h => h.1) (PI.run_out m g),
    (θ_run _ _ _).mono (fun _ h c => ⟨(h.1 c).1.trans (Val.result_eq m m' c (hin c).1 (hin c).2.1 (hin c).2.2.1 (hin c).2.2.2), (h.1 c).2⟩)
      (RI.run_ref m' g')⟩

/-- All the claims. -/
theorem claim : Cert.Claim := ⟨Cert.Kernel.Gen.facts, Cert.KernelIdeal.Gen.facts, Cert.ReferenceIdeal.Gen.facts,
  frame_kernel, frame_ideal, frame_reference, trivial, equal_results⟩

end Cert.Proof

end
